-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_proxies_and_known_cams [hPre_finite_proxies_and_known_cams : Cert.Pre_finite_proxies_and_known_cams.Facts] (m : (ℓ : Loc Cert.KernelIdeal.nD Cert.KernelIdeal.τ Cert.KernelIdeal.sig) → Buf (Elt Ideal) ℓ) : Prop :=
  ∀ c : Dev Cert.KernelIdeal.nD,
    (Cert.Pre_finite_proxies_and_known_cams.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_proxies_and_known_cams.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_proxies_and_known_cams [hPre_finite_proxies_and_known_cams : Cert.Pre_finite_proxies_and_known_cams.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_proxies_and_known_cams.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_proxies_and_known_cams.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_proxies_and_known_cams [hKernelIdeal : Cert.KernelIdeal.Facts] [hPre_finite_proxies_and_known_cams : Cert.Pre_finite_proxies_and_known_cams.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_proxies_and_known_cams m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_proxies_and_known_cams [hReferenceIdeal : Cert.ReferenceIdeal.Facts] [hPre_finite_proxies_and_known_cams : Cert.Pre_finite_proxies_and_known_cams.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_proxies_and_known_cams m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_proxies_and_known_cams [hKernelIdeal : Cert.KernelIdeal.Facts] [hReferenceIdeal : Cert.ReferenceIdeal.Facts] [hPre_finite_proxies_and_known_cams : Cert.Pre_finite_proxies_and_known_cams.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_proxies_and_known_cams m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_proxies_and_known_cams : Cert.Pre_finite_proxies_and_known_cams.Facts),
    quiescent_Kernel (hKernel := hKernel)
    ∧ quiescent_KernelIdeal (hKernelIdeal := hKernelIdeal)
    ∧ quiescent_KernelIdeal_pre_finite_proxies_and_known_cams (hKernelIdeal := hKernelIdeal) (hPre_finite_proxies_and_known_cams := hPre_finite_proxies_and_known_cams)
    ∧ quiescent_ReferenceIdeal (hReferenceIdeal := hReferenceIdeal)
    ∧ quiescent_ReferenceIdeal_pre_finite_proxies_and_known_cams (hReferenceIdeal := hReferenceIdeal) (hPre_finite_proxies_and_known_cams := hPre_finite_proxies_and_known_cams)
    ∧ preserves_Kernel_KernelIdeal
    ∧ algebraic_KernelIdeal_ReferenceIdeal_pre_finite_proxies_and_known_cams (hKernelIdeal := hKernelIdeal) (hReferenceIdeal := hReferenceIdeal) (hPre_finite_proxies_and_known_cams := hPre_finite_proxies_and_known_cams)
-- ==== Pre_finite_proxies_and_known_cams.lean ====
abbrev S1024x64 : Shape := ⟨2, ![1024, 64]⟩
abbrev S1024 : Shape := ⟨1, ![1024]⟩
abbrev S100000x64 : Shape := ⟨2, ![100000, 64]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  bcast_S_S1024 : S_.BroadcastsInDim S1024 (![] : Fin 0 → Fin S1024.rank)

variable [Facts]

def fn {F : FTy → Type} [FloatOps F] (main_arg0 : FVec F S1024x64 .f32) (main_arg1 : IVec S1024 32) (main_arg2 : IVec S1024 32) (main_arg3 : FVec F S100000x64 .f32) (main_arg4 : IVec S100000 32) (main_arg5 : IVec S100000 32) : IVec S100000x64 1 × IVec S1024 1 :=
  let main_cst : FVec F S_ .f32 := constant S_ .f32 0xFF800000#32
  let main_v0 : FVec F S100000x64 .f32 := broadcastInDim S100000x64 ![] bcast_S_S100000x64 main_cst
  let main_v1 : IVec S100000x64 1 := cmpf .ogt main_arg3 main_v0
  let main_cst_0 : FVec F S_ .f32 := constant S_ .f32 0x7F800000#32
  let main_v2 : FVec F S100000x64 .f32 := broadcastInDim S100000x64 ![] bcast_S_S100000x64 main_cst_0
  let main_v3 : IVec S100000x64 1 := cmpf .olt main_arg3 main_v2
  let main_v4 : IVec S100000x64 1 := andi main_v1 main_v3
  let main_c : IVec S_ 32 := constantI S_ 32 0#32
  let main_v5 : IVec S1024 32 := broadcastInDim S1024 ![] bcast_S_S1024 main_c
  let main_v6 : IVec S1024 1 := cmpi .sge main_arg2 main_v5
  let main_c_1 : IVec S_ 32 := constantI S_ 32 8#32
  let main_v7 : IVec S1024 32 := broadcastInDim S1024 ![] bcast_S_S1024 main_c_1
  let main_v8 : IVec S1024 1 := cmpi .slt main_arg2 main_v7
  let main_v9 : IVec S1024 1 := andi main_v6 main_v8
  (main_v4, main_v9)
-- ==== Kernel.lean ====
abbrev S1024x64 : Shape := ⟨2, ![1024, 64]⟩
abbrev S1024 : Shape := ⟨1, ![1024]⟩
abbrev S100000x64 : Shape := ⟨2, ![100000, 64]⟩
abbrev S100000 : Shape := ⟨1, ![100000]⟩
abbrev S_ : Shape := ⟨0, ![]⟩
abbrev S100352x64 : Shape := ⟨2, ![100352, 64]⟩
abbrev S100352 : Shape := ⟨1, ![100352]⟩
abbrev S49x1x2048 : Shape := ⟨3, ![49, 1, 2048]⟩
abbrev S1024x1 : Shape := ⟨2, ![1024, 1]⟩
abbrev S1x1 : Shape := ⟨2, ![1, 1]⟩
abbrev S2048x64 : Shape := ⟨2, ![2048, 64]⟩
abbrev S1x1x2048 : Shape := ⟨3, ![1, 1, 2048]⟩
abbrev S8x1 : Shape := ⟨2, ![8, 1]⟩
abbrev S2048x2048 : Shape := ⟨2, ![2048, 2048]⟩
abbrev S1024x8 : Shape := ⟨2, ![1024, 8]⟩
abbrev S1024x2048 : Shape := ⟨2, ![1024, 2048]⟩
abbrev S1x2048 : Shape := ⟨2, ![1, 2048]⟩
abbrev S8x2048 : Shape := ⟨2, ![8, 2048]⟩
abbrev S2048 : Shape := ⟨1, ![2048]⟩
abbrev S8 : Shape := ⟨1, ![8]⟩
abbrev S1 : Shape := ⟨1, ![1]⟩

abbrev nBuf : Space → Nat
  | .hbm => 16
  | .vmem => 15
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S1024, .i32⟩
  | .hbm, ⟨3, _⟩ => ⟨S100000x64, .f32⟩
  | .hbm, ⟨4, _⟩ => ⟨S100000, .i32⟩
  | .hbm, ⟨5, _⟩ => ⟨S100000, .i32⟩
  | .hbm, ⟨6, _⟩ => ⟨S_, .i32⟩
  | .hbm, ⟨7, _⟩ => ⟨S_, .f32⟩
  | .hbm, ⟨8, _⟩ => ⟨S100352x64, .f32⟩
  | .hbm, ⟨9, _⟩ => ⟨S_, .i32⟩
  | .hbm, ⟨10, _⟩ => ⟨S_, .i32⟩
  | .hbm, ⟨11, _⟩ => ⟨S100352, .i32⟩
  | .hbm, ⟨12, _⟩ => ⟨S49x1x2048, .i32⟩
  | .hbm, ⟨13, _⟩ => ⟨S1024x1, .i32⟩
  | .hbm, ⟨14, _⟩ => ⟨S1024x1, .i32⟩
  | .hbm, ⟨15, _⟩ => ⟨S1x1, .f32⟩
  | .local _ .vmem, ⟨0, _⟩ => ⟨S1024x64, .f32⟩
  | .local _ .vmem, ⟨1, _⟩ => ⟨S1024x1, .i32⟩
  | .local _ .vmem, ⟨2, _⟩ => ⟨S1024x1, .i32⟩
  | .local _ .vmem, ⟨3, _⟩ => ⟨S2048x64, .f32⟩
  | .local _ .vmem, ⟨4, _⟩ => ⟨S2048x64, .f32⟩
  | .local _ .vmem, ⟨5, _⟩ => ⟨S1x1x2048, .i32⟩
  | .local _ .vmem, ⟨6, _⟩ => ⟨S1x1x2048, .i32⟩
  | .local _ .vmem, ⟨7, _⟩ => ⟨S1x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S8x1, .f32⟩
  | .local _ .vmem, ⟨12, _⟩ => ⟨S1024x64, .bf16⟩
  | .local _ .vmem, ⟨13, _⟩ => ⟨S2048x2048, .bf16⟩
  | .local _ .vmem, ⟨14, _⟩ => ⟨S1024x8, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v75 : BitVec 1 := Scalar.cmpi .eq arg0 c48_i32
  let v76 : BitVec 32 := Scalar.extui v75
  let c0_i32_39 : BitVec 32 := 0#32
  let v77 : BitVec 1 := Scalar.cmpi .ne v76 c0_i32_39
  v77

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1024x64 : Shape := ⟨2, ![1024, 64]⟩
abbrev S1024 : Shape := ⟨1, ![1024]⟩
abbrev S100000x64 : Shape := ⟨2, ![100000, 64]⟩
abbrev S100000 : Shape := ⟨1, ![100000]⟩
abbrev S_ : Shape := ⟨0, ![]⟩
abbrev S1024x1 : Shape := ⟨2, ![1024, 1]⟩
abbrev S64x100000 : Shape := ⟨2, ![64, 100000]⟩
abbrev S1024x100000 : Shape := ⟨2, ![1024, 100000]⟩
abbrev S1x100000 : Shape := ⟨2, ![1, 100000]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S1024, .i32⟩
  | .hbm, ⟨3, _⟩ => ⟨S100000x64, .f32⟩
  | .hbm, ⟨4, _⟩ => ⟨S100000, .i32⟩
  | .hbm, ⟨5, _⟩ => ⟨S100000, .i32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x64, .f32⟩
  | .hbm, ⟨15, _⟩ => ⟨S1024x64, .f32⟩
  | .hbm, ⟨16, _⟩ => ⟨S64x100000, .f32⟩
  | .hbm, ⟨17, _⟩ => ⟨S1024x100000, .f32⟩
  | .hbm, ⟨18, _⟩ => ⟨S_, .f32⟩
  | .hbm, ⟨19, _⟩ => ⟨S1024x100000, .f32⟩
  | .hbm, ⟨20, _⟩ => ⟨S1024x100000, .f32⟩
  | .hbm, ⟨21, _⟩ => ⟨S1024x1, .i32⟩
  | .hbm, ⟨22, _⟩ => ⟨S1x100000, .i32⟩
  | .hbm, ⟨23, _⟩ => ⟨S1024x100000, .i32⟩
  | .hbm, ⟨24, _⟩ => ⟨S1024x100000, .i32⟩
  | .hbm, ⟨25, _⟩ => ⟨S1024x100000, .i1⟩
  | .hbm, ⟨26, _⟩ => ⟨S_, .f32⟩
  | .hbm, ⟨27, _⟩ => ⟨S_, .f32⟩
  | .hbm, ⟨28, _⟩ => ⟨S1024x100000, .f32⟩
  | .hbm, ⟨29, _⟩ => ⟨S1024x100000, .f32⟩
  | .hbm, ⟨30, _⟩ => ⟨S_, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .i1⟩
  | .hbm, ⟨35, _⟩ => ⟨S_, .f32⟩
  | .hbm, ⟨36, _⟩ => ⟨S1024, .f32⟩
  | .hbm, ⟨37, _⟩ => ⟨S1024, .i1⟩
  | .hbm, ⟨38, _⟩ => ⟨S1024, .i1⟩
  | .hbm, ⟨39, _⟩ => ⟨S_, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S1024x1, .f32⟩
  | .hbm, ⟨44, _⟩ => ⟨S1024x100000, .f32⟩
  | .hbm, ⟨45, _⟩ => ⟨S1024x100000, .f32⟩
  | .hbm, ⟨46, _⟩ => ⟨S1024x100000, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1024x100000, .i32⟩
  | .hbm, ⟨52, _⟩ => ⟨S_, .i32⟩
  | .hbm, ⟨53, _⟩ => ⟨S_, .i32⟩
  | .hbm, ⟨54, _⟩ => ⟨S1024x100000, .i32⟩
  | .hbm, ⟨55, _⟩ => ⟨S_, .i32⟩
  | .hbm, ⟨56, _⟩ => ⟨S1024x100000, .i32⟩
  | .hbm, ⟨57, _⟩ => ⟨S1024x100000, .i32⟩
  | .hbm, ⟨58, _⟩ => ⟨S1024x1, .i32⟩
  | .hbm, ⟨59, _⟩ => ⟨S1024x100000, .i32⟩
  | .hbm, ⟨60, _⟩ => ⟨S1024x100000, .i1⟩
  | .hbm, ⟨61, _⟩ => ⟨S1024x100000, .i1⟩
  | .hbm, ⟨62, _⟩ => ⟨S_, .f32⟩
  | .hbm, ⟨63, _⟩ => ⟨S_, .f32⟩
  | .hbm, ⟨64, _⟩ => ⟨S1024x100000, .f32⟩
  | .hbm, ⟨65, _⟩ => ⟨S1024x100000, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S1024x100000, .i32⟩
  | .hbm, ⟨70, _⟩ => ⟨S_, .i32⟩
  | .hbm, ⟨71, _⟩ => ⟨S1024, .i32⟩
  | .hbm, ⟨72, _⟩ => ⟨S_, .i32⟩
  | .hbm, ⟨73, _⟩ => ⟨S1024, .i32⟩
  | .hbm, ⟨74, _⟩ => ⟨S1024, .i1⟩
  | .hbm, ⟨75, _⟩ => ⟨S_, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S1x1, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_call2_v0 : Ref sig .tc := ⟨.hbm, 40, rfl⟩
abbrev main_call2_v1 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call3_call0_c : Ref sig .tc := ⟨.hbm, 52, rfl⟩
abbrev main_call3_call0_v0 : Ref sig .tc := ⟨.hbm, 53, rfl⟩
abbrev main_v30 : Ref sig .tc := ⟨.hbm, 54, rfl⟩
abbrev main_c : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_call4_v0 : Ref sig .tc := ⟨.hbm, 63, rfl⟩
abbrev main_call4_v1 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_9 : Ref sig .tc := ⟨.hbm, 70, rfl⟩
abbrev main_v41 : Ref sig .tc := ⟨.hbm, 71, rfl⟩
abbrev main_c_10 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_call5_v0 : Ref sig .tc := ⟨.hbm, 76, rfl⟩
abbrev main_call5_v1 : Ref sig .tc := ⟨.hbm, 77, rfl⟩
abbrev main_v44 : Ref sig .tc := ⟨.hbm, 78, rfl⟩
abbrev main_cst_12 : Ref sig .tc := ⟨.hbm, 79, rfl⟩
abbrev main_v45 : Ref sig .tc := ⟨.hbm, 80, rfl⟩
abbrev main_cst_13 : Ref sig .tc := ⟨.hbm, 81, rfl⟩
abbrev main_v46 : Ref sig .tc := ⟨.hbm, 82, rfl⟩
abbrev main_v47 : Ref sig .tc := ⟨.hbm, 83, rfl⟩

abbrev nD : Nat := 1
abbrev τ : Topo := Topo.v7x

variable {F : FTy → Type} [FloatOps F]
-- ==== Proof.Blocks.lean ====
/-
  The blocks the kernel's body reads at a grid point, as elements of the program's arguments: the features, cameras and
  targets whole at every point; of the proxies and the camera ids, padded by the host from 100000 to 100352 entries (with
  zeros and with eights), the 2048 entries of the point's chunk.
-/
module

public import proofs.«01_k».proof.Proof.Gen.KernelIdeal.Frame
public import Idealize.ShloMosaic.Lib.Pipeline.Value
public import Idealize.ShloMosaic.Lib.StableHlo.ReadAt
public import Idealize.ShloMosaic.Lib.Pipeline.ValueKit.Point

@[expose] public section

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ) (c : Dev nD)

/-- Where the windows stand at a grid point: the features, the cameras and the targets stay at their one block, the proxies and the
    camera ids move one block a point. -/
theorem idx : ∀ t : Fin cfg0.N, win0_0.index t (0 : Fin 2) = 0 ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 := by decide +kernel

/-- The block of features is the whole argument at every point. -/
theorem features (t : Fin cfg0.N) : iblk m c 0 t = m ((c : Thread nD τ).loc main_arg0) := by
  blk_ext! [iblk, V, idx t]

/-- The host's column of cameras is the argument reshaped. -/
theorem V3 : V m c main_v3 = shapeCast S1024x1 (m ((c : Thread nD τ).loc main_arg2)) shapeCasts_S1024_S1024x1 := by
  entry_read
  rfl

/-- The host's column of targets is the argument reshaped. -/
theorem V4 : V m c main_v4 = shapeCast S1024x1 (m ((c : Thread nD τ).loc main_arg1)) shapeCasts_S1024_S1024x1 := by
  entry_read
  rfl

/-- The host's padded proxies: the argument's rows, then rows of zeros. -/
theorem V0 (j : Fin 100352) (k : Fin 64) : (V m c main_v0 (ix2 j k) : EReal)
    = if h : j.val < 100000 then m ((c : Thread nD τ).loc main_arg3) (ix2 ⟨j.val, h⟩ k) else (0 : EReal) := by
  unfold V
  after_reads_at
  refine dite_congr rfl (fun _ => rfl) fun _ => ?_
  show (((0#32 : BitVec 32).toInt : ℝ) : EReal) = 0
  simp

/-- The host's padded camera ids, in chunks of 2048: the argument's, then eights. -/
theorem V2 (a : Fin 49) (b : Fin 1) (j : Fin 2048) : (V m c main_v2 (ix3 a b j) : BitVec 32)
    = if h : a.val * 2048 + j.val < 100000 then m ((c : Thread nD τ).loc main_arg5) (ix1 ⟨a.val * 2048 + j.val, h⟩) else (8#32 : BitVec 32) := by
  unfold V
  after_reads_at
  rfl

/-- The block of cameras at a row is the row's camera. -/
theorem cams (t : Fin cfg0.N) (r : Fin 1024) (k : Fin 1) : iblk m c 1 t (ix2 r k) = m ((c : Thread nD τ).loc main_arg2) (ix1 r) := by
  show V m c main_v3 (((cfg0.win 1).blk t).view.emb (ix2 r k)) = _
  rw [V3, show ((cfg0.win 1).blk t).view.emb (ix2 r k) = ix2 r k by blk_ext [idx t]]
  pointwise

/-- The block of targets at a row is the row's target. -/
theorem targets (t : Fin cfg0.N) (r : Fin 1024) (k : Fin 1) : iblk m c 2 t (ix2 r k) = m ((c : Thread nD τ).loc main_arg1) (ix1 r) := by
  show V m c main_v4 (((cfg0.win 2).blk t).view.emb (ix2 r k)) = _
  rw [V4, show ((cfg0.win 2).blk t).view.emb (ix2 r k) = ix2 r k by blk_ext [idx t]]
  pointwise

/-- The block of proxies at point `t` is rows `2048 t` and on of the proxies, rows past the last reading zero. -/
theorem proxies (t : Fin cfg0.N) (j : Fin 2048) (k : Fin 64) : (iblk m c 3 t (ix2 j k) : EReal)
    = if h : t.val * 2048 + j.val < 100000 then m ((c : Thread nD τ).loc main_arg3) (ix2 ⟨t.val * 2048 + j.val, h⟩ k) else (0 : EReal) := by
  have ht : t.val < 49 := lt_of_lt_of_eq t.isLt (show cfg0.N = 49 from N_0)
  have hj := j.isLt
  refine Eq.trans ?_ (V0 m c ⟨t.val * 2048 + j.val, by omega⟩ k)
  show V m c main_v0 (((cfg0.win 3).blk t).view.emb (ix2 j k)) = _
  rw [show ((cfg0.win 3).blk t).view.emb (ix2 j k) = ix2 ⟨t.val * 2048 + j.val, by omega⟩ k by blk_ext [idx t]]

/-- The block of camera ids at point `t` is entries `2048 t` and on of the ids, entries past the last reading eight. -/
theorem ids (t : Fin cfg0.N) (j : Fin 2048) : (iblk m c 4 t (ix3 0 0 j) : BitVec 32)
    = if h : t.val * 2048 + j.val < 100000 then m ((c : Thread nD τ).loc main_arg5) (ix1 ⟨t.val * 2048 + j.val, h⟩) else (8#32 : BitVec 32) := by
  have ht : t.val < 49 := lt_of_lt_of_eq t.isLt (show cfg0.N = 49 from N_0)
  refine Eq.trans ?_ (V2 m c ⟨t.val, ht⟩ 0 j)
  show V m c main_v2 (((cfg0.win 4).blk t).view.emb (ix3 0 0 j)) = _
  rw [show ((cfg0.win 4).blk t).view.emb (ix3 0 0 j) = ix3 ⟨t.val, ht⟩ 0 j by blk_ext [idx t]]

end Cert.KernelIdeal.Blocks

end

end
-- ==== Proof.Spec.lean ====
/-
  The mathematics of the loss, over the reals and free of any program: the camera of column `j` is the word `C j`, the rank
  of a column is its position among the columns of its own camera, and a row with camera `cam`, target `tg` and logits `l`
  loses `log (∑ exp l) - l(target)` over the columns of its camera, or nothing where its camera has no column. The chunked
  form the kernel computes is here as the two facts that carry it: how the sums grow by a chunk, and that they do not see
  the padding columns.
-/
module

public import Mathlib.Analysis.SpecialFunctions.Log.Basic
public import Mathlib.Data.Nat.Count
public import Mathlib.Algebra.BigOperators.Fin

@[expose] public section

noncomputable section

namespace Cert.Nll

open Finset

/-- The position of column `j` among the columns of its own camera. -/
def rank (C : ℕ → BitVec 32) (j : ℕ) : ℕ := Nat.count (fun i => C i = C j) j

/-- The sum of `exp (l j - μ)` over the columns before `K` of camera `cam`. -/
def expSum (C : ℕ → BitVec 32) (cam : BitVec 32) (l : ℕ → ℝ) (μ : ℝ) (K : ℕ) : ℝ :=
  ∑ j ∈ range K, if C j = cam then Real.exp (l j - μ) else 0

/-- The logit of the column before `K` of camera `cam` whose rank is the signed word `tg` (zero where there is none). -/
def hit (C : ℕ → BitVec 32) (cam tg : BitVec 32) (l : ℕ → ℝ) (K : ℕ) : ℝ :=
  ∑ j ∈ range K, if C j = cam ∧ (rank C j : ℤ) = tg.toInt then l j else 0

/-- The loss of one row over the columns before `K`. -/
def rowLoss (C : ℕ → BitVec 32) (cam tg : BitVec 32) (l : ℕ → ℝ) (K : ℕ) : ℝ :=
  if 0 < expSum C cam l 0 K then Real.log (expSum C cam l 0 K) - hit C cam tg l K else 0

/-- Shifting every exponent by `μ` scales the sum. -/
theorem expSum_shift (C : ℕ → BitVec 32) (cam : BitVec 32) (l : ℕ → ℝ) (μ ν : ℝ) (K : ℕ) :
    expSum C cam l μ K * Real.exp (μ - ν) = expSum C cam l ν K := by
  unfold expSum
  rw [sum_mul]
  refine sum_congr rfl fun j _ => ?_
  split
  · rw [← Real.exp_add]; congr 1; ring
  · rw [zero_mul]

/-- A sum of nonnegative terms: nonnegative. -/
theorem expSum_nonneg (C : ℕ → BitVec 32) (cam : BitVec 32) (l : ℕ → ℝ) (μ : ℝ) (K : ℕ) : 0 ≤ expSum C cam l μ K :=
  sum_nonneg fun j _ => by split; exacts [(Real.exp_pos _).le, le_rfl]

/-- The sum is positive exactly when the camera has a column, whatever the shift. -/
theorem expSum_pos_iff (C : ℕ → BitVec 32) (cam : BitVec 32) (l : ℕ → ℝ) (μ : ℝ) (K : ℕ) :
    0 < expSum C cam l μ K ↔ ∃ j < K, C j = cam := by
  unfold expSum
  rw [sum_pos_iff_of_nonneg fun j _ => by split; exacts [(Real.exp_pos _).le, le_rfl]]
  constructor
  · rintro ⟨j, hj, h⟩
    by_cases hc : C j = cam
    · exact ⟨j, mem_range.1 hj, hc⟩
    · rw [if_neg hc] at h; exact absurd h (lt_irrefl _)
  · rintro ⟨j, hj, h⟩
    exact ⟨j, mem_range.2 hj, by rw [if_pos h]; exact Real.exp_pos _⟩

/-- A shifted sum's logarithm, the shift added back, is the unshifted one's. -/
theorem log_expSum (C : ℕ → BitVec 32) (cam : BitVec 32) (l : ℕ → ℝ) (μ : ℝ) (K : ℕ) (h : 0 < expSum C cam l μ K) :
    μ + Real.log (expSum C cam l μ K) = Real.log (expSum C cam l 0 K) := by
  rw [← expSum_shift C cam l μ 0 K, Real.log_mul h.ne' (Real.exp_pos _).ne', Real.log_exp]
  ring

/-- The sum grown by a chunk of `B` columns. -/
theorem expSum_add (C : ℕ → BitVec 32) (cam : BitVec 32) (l : ℕ → ℝ) (μ : ℝ) (K B : ℕ) :
    expSum C cam l μ (K + B) = expSum C cam l μ K + ∑ j : Fin B, if C (K + j.val) = cam then Real.exp (l (K + j.val) - μ) else 0 := by
  unfold expSum
  rw [sum_range_add, ← Fin.sum_univ_eq_sum_range (fun j => if C (K + j) = cam then Real.exp (l (K + j) - μ) else 0)]

/-- The target's logit grown by a chunk of `B` columns. -/
theorem hit_add (C : ℕ → BitVec 32) (cam tg : BitVec 32) (l : ℕ → ℝ) (K B : ℕ) :
    hit C cam tg l (K + B) = hit C cam tg l K
      + ∑ j : Fin B, if C (K + j.val) = cam ∧ (rank C (K + j.val) : ℤ) = tg.toInt then l (K + j.val) else 0 := by
  unfold hit
  rw [sum_range_add, ← Fin.sum_univ_eq_sum_range (fun j => if C (K + j) = cam ∧ (rank C (K + j) : ℤ) = tg.toInt then l (K + j) else 0)]

/-- Columns of other cameras, past `K`, do not enter the sum. -/
theorem expSum_pad (C : ℕ → BitVec 32) (cam : BitVec 32) (l : ℕ → ℝ) (μ : ℝ) (K B : ℕ) (h : ∀ j, K ≤ j → C j ≠ cam) :
    expSum C cam l μ (K + B) = expSum C cam l μ K := by
  rw [expSum_add, sum_eq_zero fun j _ => if_neg (h _ (Nat.le_add_right _ _)), add_zero]

/-- Nor the target's logit. -/
theorem hit_pad (C : ℕ → BitVec 32) (cam tg : BitVec 32) (l : ℕ → ℝ) (K B : ℕ) (h : ∀ j, K ≤ j → C j ≠ cam) :
    hit C cam tg l (K + B) = hit C cam tg l K := by
  rw [hit_add, sum_eq_zero fun j _ => if_neg fun hj => h _ (Nat.le_add_right _ _) hj.1, add_zero]

/-- Nor, so, the row's loss. -/
theorem rowLoss_pad (C : ℕ → BitVec 32) (cam tg : BitVec 32) (l : ℕ → ℝ) (K B : ℕ) (h : ∀ j, K ≤ j → C j ≠ cam) :
    rowLoss C cam tg l (K + B) = rowLoss C cam tg l K := by
  unfold rowLoss
  rw [expSum_pad C cam l 0 K B h, hit_pad C cam tg l K B h]

/-- A sum of zeros and ones counts the ones. -/
theorem sum_count (p : ℕ → Prop) [DecidablePred p] (B : ℕ) : (∑ j : Fin B, if p j.val then (1 : ℝ) else 0) = Nat.count p B := by
  rw [Fin.sum_univ_eq_sum_range (fun j => if p j then (1 : ℝ) else 0), sum_boole, Nat.count_eq_card_filter_range]

/-- … and restricted to the positions up to `k`, the ones up to there. -/
theorem sum_count_le (p : ℕ → Prop) [DecidablePred p] (B k : ℕ) (hk : k < B) :
    (∑ j : Fin B, if p j.val ∧ j.val ≤ k then (1 : ℝ) else 0) = Nat.count p (k + 1) := by
  rw [Fin.sum_univ_eq_sum_range (fun j => if p j ∧ j ≤ k then (1 : ℝ) else 0), sum_boole, Nat.count_eq_card_filter_range]
  congr 2
  ext j
  simp only [mem_filter, mem_range]
  constructor
  · rintro ⟨_, hp, hj⟩; exact ⟨by omega, hp⟩
  · rintro ⟨hj, hp⟩; exact ⟨by omega, hp, by omega⟩

/-- The rank of column `k` of the chunk that starts at `K`, from the counts up to it in the chunk and before the chunk. -/
theorem rank_chunk (C : ℕ → BitVec 32) (K k : ℕ) :
    (Nat.count (fun i => C (K + i) = C (K + k)) (k + 1) : ℝ) + (Nat.count (fun i => C i = C (K + k)) K : ℝ) - 1 = (rank C (K + k) : ℝ) := by
  have h1 : Nat.count (fun i => C i = C (K + k)) (K + (k + 1))
      = Nat.count (fun i => C i = C (K + k)) K + Nat.count (fun i => C (K + i) = C (K + k)) (k + 1) := Nat.count_add _ _ _
  have h2 : Nat.count (fun i => C i = C (K + k)) (K + k + 1) = rank C (K + k) + 1 := by
    rw [Nat.count_succ, if_pos rfl]; rfl
  have h3 : ((rank C (K + k) + 1 : ℕ) : ℝ) = _ := congrArg (Nat.cast (R := ℝ)) (h2.symm.trans h1)
  push_cast at h3
  linarith

end Cert.Nll

end

end
-- ==== Proof.Reals.lean ====
/-
  Extended-real facts the two programs share: sums of reals, the comparison words read as zeros and ones, the constants the
  programs write as words, and the scaled features — a real whatever the features are, since an infinite feature makes its
  row's norm infinite and the quotient by it zero.
-/
module

public import Idealize.ShloMosaic.PureOps.Ideal.Laws
public import Idealize.ShloMosaic.Lib.Pointwise

@[expose] public section

noncomputable section

namespace Cert.Nll

open Idealize.ShloMosaic Finset

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A real chosen by a condition, as an extended real. -/
theorem coe_ite (p : Prop) [Decidable p] (a b : ℝ) : ((if p then a else b : ℝ) : EReal) = if p then (a : EReal) else (b : EReal) := by
  split <;> rfl

/-- An equality test of words, widened and read as a float: one where they are equal, else zero. -/
theorem eq_word (a b : BitVec 32) :
    (FloatOps.sitofp .f32 (BitVec.setWidth 32 (IntOp.cmpi CmpIPredicate.eq a b)) : Ideal .f32) = if a = b then (1 : EReal) else 0 := by
  show (((BitVec.setWidth 32 (IntOp.cmpi CmpIPredicate.eq a b)).toInt : ℝ) : EReal) = _
  unfold IntOp.cmpi
  by_cases h : a = b
  · simp [h]
  · simp [h, beq_false_of_ne h]

/-- The comparison of two small positions, widened and read as a float: one where the first is not past the second, else zero. -/
theorem le_word (i j : Fin 2048) :
    (FloatOps.sitofp .f32 (BitVec.setWidth 32 (IntOp.cmpi CmpIPredicate.sle (BitVec.ofNat 32 i.val) (BitVec.ofNat 32 j.val))) : Ideal .f32)
      = if i.val ≤ j.val then (1 : EReal) else 0 := by
  have hi := i.isLt
  have hj := j.isLt
  have e : ∀ n : ℕ, n < 2048 → (BitVec.ofNat 32 n).toInt = n := fun n hn => by
    rw [BitVec.toInt_ofNat', Int.bmod_def]; omega
  show (((BitVec.setWidth 32 (IntOp.cmpi CmpIPredicate.sle (BitVec.ofNat 32 i.val) (BitVec.ofNat 32 j.val))).toInt : ℝ) : EReal) = _
  unfold IntOp.cmpi
  by_cases h : i.val ≤ j.val
  · simp [BitVec.sle, e i hi, e j hj, h]
  · simp [BitVec.sle, e i hi, e j hj, h]

/-- The word the programs write for the norm's floor is a positive real. -/
theorem floor_pos : ∃ e : ℝ, 0 < e ∧ Ideal.ofBits .f32 0x2B8CBCCC#32 = (e : EReal) :=
  ⟨9223372 * (2 : ℝ) ^ (-63 : ℤ), by positivity, by simp [Ideal.ofBits, Ideal.ieee, -EReal.coe_mul]⟩

/-- The word the programs write for the temperature is a positive real. -/
theorem temp_pos : ∃ T : ℝ, 0 < T ∧ Ideal.ofBits .f32 0x3D4CCCCD#32 = (T : EReal) :=
  ⟨13421773 * (2 : ℝ) ^ (-28 : ℤ), by positivity, by simp [Ideal.ofBits, Ideal.ieee, -EReal.coe_mul]⟩

/-- The word the kernel starts its running maximum from is a real. -/
theorem start_real : ∃ μ : ℝ, Ideal.ofBits .f32 0xF149F2CA#32 = (μ : EReal) :=
  ⟨_, by simp [Ideal.ofBits, Ideal.ieee, -EReal.coe_mul]; rfl⟩

/-- The word of minus infinity. -/
theorem bot_word : Ideal.ofBits .f32 0xFF800000#32 = ⊥ := by simp [Ideal.ofBits, Ideal.ieee]

/-- The word of plus infinity. -/
theorem top_word : Ideal.ofBits .f32 0x7F800000#32 = ⊤ := by simp [Ideal.ofBits, Ideal.ieee]

/-- The exponential of a real. -/
theorem exp_coe (a : ℝ) : Ideal.exp (a : EReal) = (Real.exp a : EReal) := rfl

/-- The logarithm of a positive real. -/
theorem log_coe {a : ℝ} (h : 0 < a) : Ideal.log (a : EReal) = (Real.log a : EReal) := if_neg (not_le.2 h)

/-- The greater of a real and the greatest of finitely many reals is a real. -/
theorem max_real {ι : Type*} (s : Finset ι) (μ : ℝ) (f : ι → ℝ) : ∃ ν : ℝ, max (μ : EReal) (s.fold max ⊥ fun i => (f i : EReal)) = (ν : EReal) := by
  refine ⟨_, (EReal.coe_toReal ?_ ?_).symm⟩
  · refine ne_of_lt (max_lt (EReal.coe_lt_top μ) ((Finset.fold_max_lt _).2 ⟨bot_lt_top, fun i _ => EReal.coe_lt_top _⟩))
  · exact ne_of_gt (lt_of_lt_of_le (EReal.bot_lt_coe μ) (le_max_left _ _))

/-- A square is not negative. -/
theorem sq_nonneg' (x : EReal) : 0 ≤ x * x := by
  induction x with
  | bot => simp
  | top => simp
  | coe a => exact_mod_cast mul_self_nonneg a

/-- The denominator of a feature row with the squares' sum `q`: its norm, floored. -/
abbrev floored (q : EReal) : EReal := max (Ideal.sqrt q) (Ideal.ofBits .f32 0x2B8CBCCC#32)

/-- A feature over its row's floored norm is a real `y`, and over the floored norm times the temperature is `y` over the temperature. -/
theorem scaled {n : ℕ} (x : Fin n → EReal) (k : Fin n) : ∃ y : ℝ, Ideal.div (x k) (floored (∑ i, x i * x i)) = (y : EReal)
    ∧ ∀ T : ℝ, 0 < T → Ideal.div (x k) (floored (∑ i, x i * x i) * (T : EReal)) = ((y / T : ℝ) : EReal) := by
  obtain ⟨e, he, hE⟩ := floor_pos
  have hinf : x k = ⊤ ∨ x k = ⊥ → floored (∑ i, x i * x i) = ⊤ := fun h => by
    have h1 : x k * x k = ⊤ := by rcases h with h | h <;> rw [h] <;> simp
    have h2 : (∑ i, x i * x i) = ⊤ := top_le_iff.1 (h1 ▸ single_le_sum (f := fun i => x i * x i) (fun i _ => sq_nonneg' (x i)) (mem_univ k))
    show max (Ideal.sqrt (∑ i, x i * x i)) _ = ⊤
    rw [h2]
    exact max_eq_left le_top
  have hpos : (0 : EReal) < floored (∑ i, x i * x i) := lt_of_lt_of_le (by rw [hE]; exact_mod_cast he) (le_max_right _ _)
  generalize floored (∑ i, x i * x i) = D at hinf hpos
  induction D with
  | bot => exact absurd hpos (by simp)
  | top =>
    have h0 : Ideal.div (x k) ⊤ = 0 := by rw [Ideal.div, if_neg (by simp), EReal.inv_top, mul_zero]
    exact ⟨0, by rw [h0]; rfl, fun T hT => by rw [EReal.top_mul_coe_of_pos hT, h0]; simp⟩
  | coe d =>
    have hd : 0 < d := by exact_mod_cast hpos
    have hx : x k ≠ ⊤ ∧ x k ≠ ⊥ := ⟨fun h => absurd (hinf (.inl h)) (EReal.coe_ne_top d), fun h => absurd (hinf (.inr h)) (EReal.coe_ne_top d)⟩
    obtain ⟨a, ha⟩ : ∃ a : ℝ, x k = (a : EReal) := ⟨_, (EReal.coe_toReal hx.1 hx.2).symm⟩
    refine ⟨a * (1 / d), by rw [ha, Ideal.div_coe hd.ne', EReal.coe_mul], fun T hT => ?_⟩
    rw [ha, ← EReal.coe_mul, Ideal.div_coe (mul_pos hd hT).ne', ← EReal.coe_mul]
    congr 1
    field_simp

end Cert.Nll

end

end
-- ==== Proof.Chunk.lean ====
/-
  One chunk of columns, over the reals: if the scratches hold what they should hold of the columns before `K` (`Carried`),
  the body's payloads over the blocks of the chunk that starts at `K` give what they should hold of the columns before
  `K + 2048`. One theorem per scratch, then all of them (`Carried.step`), the start (`carried_zero`), and the result block
  read off the last state (`loss_block`).
-/
module

public import proofs.«01_k».proof.Proof.Gen.KernelIdeal.Skeleton
public import proofs.«01_k».proof.Proof.Spec
public import proofs.«01_k».proof.Proof.Reals
public import Idealize.ShloMosaic.Lib.Pointwise

@[expose] public section

noncomputable section

namespace Cert.KernelIdeal.Chunk

open Cert.KernelIdeal Cert.KernelIdeal.Gen Idealize.ShloMosaic Idealize.ShloMosaic.TcCoe Idealize.SL.Sem
open Cert.Nll

/-- What the scratches hold of the columns before `K`: per row a real `m` and the sum of `exp (logit - m)` over the columns of the row's
    camera, the target's logit so far, per camera the number of its columns so far, and the three tables: the scaled features `y`, the
    triangular mask, the one-hot rows of the cameras. -/
structure Carried (C : ℕ → BitVec 32) (cam tg : Fin 1024 → BitVec 32) (l : Fin 1024 → ℕ → ℝ) (y : Fin 1024 → Fin 64 → ℝ) (K : ℕ)
    (m s t : Vec Ideal S1024x1 .f32) (c : Vec Ideal S8x1 .f32) (xn : Vec Ideal S1024x64 .bf16) (lt : Vec Ideal S2048x2048 .bf16)
    (oh : Vec Ideal S1024x8 .f32) : Prop where
  ms : ∀ r : Fin 1024, ∃ μ : ℝ, m (ix2 r 0) = (μ : EReal) ∧ s (ix2 r 0) = ((expSum C (cam r) (l r) μ K : ℝ) : EReal)
  t : ∀ r : Fin 1024, t (ix2 r 0) = ((hit C (cam r) (tg r) (l r) K : ℝ) : EReal)
  c : ∀ h : Fin 8, c (ix2 h 0) = (((Nat.count (fun j => C j = BitVec.ofNat 32 h.val) K : ℕ) : ℝ) : EReal)
  xn : ∀ (r : Fin 1024) (k : Fin 64), xn (ix2 r k) = (y r k : EReal)
  lt : ∀ i j : Fin 2048, lt (ix2 i j) = if i.val ≤ j.val then (1 : EReal) else 0
  oh : ∀ (r : Fin 1024) (h : Fin 8), oh (ix2 r h) = if cam r = BitVec.ofNat 32 h.val then (1 : EReal) else 0

/-- The blocks of the chunk that starts at `K`, for rows whose cameras are among the eight. -/
structure Blocks (C : ℕ → BitVec 32) (cam tg : Fin 1024 → BitVec 32) (l : Fin 1024 → ℕ → ℝ) (y : Fin 1024 → Fin 64 → ℝ) (K : ℕ)
    (x2 : Vec Ideal S1024x1 .i32) (x3 : Vec Ideal S2048x64 .f32) (x4 : Vec Ideal S1x1x2048 .i32) : Prop where
  tg : ∀ r : Fin 1024, x2 (ix2 r 0) = tg r
  logits : ∀ (r : Fin 1024) (j : Fin 2048), (∑ k : Fin 64, (y r k : EReal) * x3 (ix2 j k)) = (l r (K + j.val) : EReal)
  ids : ∀ j : Fin 2048, x4 (ix3 0 0 j) = C (K + j.val)
  known : ∀ r : Fin 1024, ∃ h : Fin 8, cam r = BitVec.ofNat 32 h.val

/-- The eight cameras are eight different words. -/
theorem word_inj (h h' : Fin 8) : BitVec.ofNat 32 h.val = BitVec.ofNat 32 h'.val ↔ h = h' := by
  revert h h'; decide

/-- A sum over the cameras against a one-hot row is the row's camera's term. -/
theorem pick (f : Fin 8 → EReal) (h : Fin 8) :
    (∑ x : Fin 8, f x * (if BitVec.ofNat 32 h.val = BitVec.ofNat 32 x.val then (1 : EReal) else 0)) = f h := by
  rw [Finset.sum_eq_single h (fun x _ hx => by rw [if_neg (fun e => hx ((word_inj h x).1 e).symm), mul_zero]) (fun hn => absurd (Finset.mem_univ h) hn),
    if_pos rfl, mul_one]

/-- The counts at a camera. -/
theorem pay15_at (v : Vec Ideal S1x1x2048 .i32) (c : Vec Ideal S8x1 .f32) (h : Fin 8) (k : Fin 1) :
    k0_pay15 v c (ix2 h k) = (c (ix2 h k) + ∑ j : Fin 2048, k0_pay13 v (ix2 h j) : EReal) := by
  pointwise [k0_pay15]

/-- The running sum at a row. -/
theorem pay17_at (s : FVec Ideal S1024x2048 .f32) (e : FVec Ideal S8x2048 .bf16) (m : Vec Ideal S1024x1 .f32) (oh : Vec Ideal S1024x8 .f32)
    (s0 : Vec Ideal S1024x1 .f32) (r : Fin 1024) (k : Fin 1) :
    k0_pay17 s e m oh s0 (ix2 r k) = (s0 (ix2 r k) * Ideal.exp (m (ix2 r k) - k0_pay16 s m (ix2 r k))
      + ∑ h : Fin 8, (∑ j : Fin 2048, Ideal.exp (s (ix2 r j) - k0_pay16 s m (ix2 r 0)) * e (ix2 h j)) * oh (ix2 r h) : EReal) := by
  pointwise [k0_pay17]

/-- The target's logit at a row. -/
theorem pay19_at (s : FVec Ideal S1024x2048 .f32) (e : FVec Ideal S8x2048 .bf16) (rk : FVec Ideal S1x2048 .f32) (oh : Vec Ideal S1024x8 .f32)
    (tg : Vec Ideal S1024x1 .i32) (t : Vec Ideal S1024x1 .f32) (r : Fin 1024) (k : Fin 1) :
    k0_pay19 s e rk oh tg t (ix2 r k) = (t (ix2 r k)
      + ∑ h : Fin 8, (∑ j : Fin 2048, (if rk (ix2 0 j) = FloatOps.sitofp FTy.f32 (tg (ix2 r 0)) then s (ix2 r j) else 0) * e (ix2 h j)) * oh (ix2 r h) : EReal) := by
  pointwise [k0_pay19]

/-- The stored target's logit is the computed one. -/
theorem pay1_at (t : FVec Ideal S1024x1 .f32) (r : Fin 1024) (k : Fin 1) : k0_pay1 t (ix2 r k) = t (ix2 r k) := by
  pointwise [k0_pay1]

variable {C : ℕ → BitVec 32} {cam tg : Fin 1024 → BitVec 32} {l : Fin 1024 → ℕ → ℝ} {y : Fin 1024 → Fin 64 → ℝ} {K : ℕ}
  {m s t : Vec Ideal S1024x1 .f32} {c : Vec Ideal S8x1 .f32} {xn : Vec Ideal S1024x64 .bf16} {lt : Vec Ideal S2048x2048 .bf16}
  {oh : Vec Ideal S1024x8 .f32} {x2 : Vec Ideal S1024x1 .i32} {x3 : Vec Ideal S2048x64 .f32} {x4 : Vec Ideal S1x1x2048 .i32}

/-- The chunk's logits. -/
theorem sims (H : Carried C cam tg l y K m s t c xn lt oh) (B : Blocks C cam tg l y K x2 x3 x4) (r : Fin 1024) (j : Fin 2048) :
    k0_pay11 x3 xn (ix2 r j) = (l r (K + j.val) : EReal) := by
  pointwise [k0_pay11]
  rw [← B.logits r j]
  exact Finset.sum_congr rfl fun k _ => by rw [H.xn]

/-- The chunk's camera indicators. -/
theorem ind (B : Blocks C cam tg l y K x2 x3 x4) (h : Fin 8) (j : Fin 2048) :
    k0_pay12 (F := Ideal) x4 (ix2 h j) = if C (K + j.val) = BitVec.ofNat 32 h.val then (1 : EReal) else 0 := by
  pointwise [k0_pay12]
  rw [B.ids]
  exact eq_word _ _

/-- … which the body widens and narrows unchanged. -/
theorem ind' (B : Blocks C cam tg l y K x2 x3 x4) (h : Fin 8) (j : Fin 2048) :
    k0_pay13 (F := Ideal) x4 (ix2 h j) = if C (K + j.val) = BitVec.ofNat 32 h.val then (1 : EReal) else 0 := by
  pointwise [k0_pay13]
  exact ind B h j

/-- The rank the body computes for a column of camera `h` is the column's rank among the columns of its camera. -/
theorem ranks (H : Carried C cam tg l y K m s t c xn lt oh) (B : Blocks C cam tg l y K x2 x3 x4) (j : Fin 2048) (h : Fin 8)
    (hj : C (K + j.val) = BitVec.ofNat 32 h.val) : k0_pay14 x4 lt c (ix2 0 j) = (((rank C (K + j.val) : ℕ) : ℝ) : EReal) := by
  pointwise [k0_pay14]
  have e : ∀ x : Fin 8, k0_pay13 x4 (ix2 x j) * (∑ i, k0_pay12 x4 (ix2 x i) * lt (ix2 i j) + c (ix2 x 0))
      = (∑ i, k0_pay12 x4 (ix2 x i) * lt (ix2 i j) + c (ix2 x 0)) * (if BitVec.ofNat 32 h.val = BitVec.ofNat 32 x.val then (1 : EReal) else 0) := fun x => by
    rw [ind' B, hj, mul_comm]
  rw [Finset.sum_congr rfl fun x _ => e x, pick (fun x => ∑ i, k0_pay12 x4 (ix2 x i) * lt (ix2 i j) + c (ix2 x 0)) h, H.c]
  have e2 : (∑ i, k0_pay12 x4 (ix2 h i) * lt (ix2 i j) : EReal)
      = (((Nat.count (fun i => C (K + i) = BitVec.ofNat 32 h.val) (j.val + 1) : ℕ) : ℝ) : EReal) := by
    rw [← sum_count_le (fun i => C (K + i) = BitVec.ofNat 32 h.val) 2048 j.val j.isLt, coe_sum]
    refine Finset.sum_congr rfl fun i _ => ?_
    rw [ind B, H.lt]
    by_cases h1 : C (K + i.val) = BitVec.ofNat 32 h.val <;> by_cases h2 : i.val ≤ j.val <;> simp [h1, h2]
  rw [e2, ← EReal.coe_add, ← EReal.coe_one, ← EReal.coe_sub, ← hj, rank_chunk]

/-- The counts after the chunk. -/
theorem counts (H : Carried C cam tg l y K m s t c xn lt oh) (B : Blocks C cam tg l y K x2 x3 x4) (h : Fin 8) :
    k0_pay15 x4 c (ix2 h 0) = (((Nat.count (fun j => C j = BitVec.ofNat 32 h.val) (K + 2048) : ℕ) : ℝ) : EReal) := by
  rw [pay15_at, H.c, Nat.count_add, Nat.cast_add, EReal.coe_add, ← sum_count (fun i => C (K + i) = BitVec.ofNat 32 h.val) 2048, coe_sum]
  refine congrArg (fun z : EReal => _ + z) ?_
  refine Finset.sum_congr rfl fun j _ => ?_
  rw [ind' B, coe_ite]
  simp

/-- The running maximum after the chunk is a real (which one does not matter to the loss). -/
theorem new_max (H : Carried C cam tg l y K m s t c xn lt oh) (B : Blocks C cam tg l y K x2 x3 x4) (r : Fin 1024) :
    ∃ ν : ℝ, k0_pay16 (k0_pay11 x3 xn) m (ix2 r 0) = (ν : EReal) := by
  obtain ⟨μ, hμ, -⟩ := H.ms r
  pointwise [k0_pay16]
  rw [hμ, show Ideal.ofBits FTy.f32 4286578688#32 = ⊥ from bot_word]
  have e : (fun j : Fin 2048 => k0_pay11 x3 xn (ix2 r j)) = fun j => (l r (K + j.val) : EReal) := funext fun j => sims H B r j
  rw [e]
  exact max_real _ μ _

/-- The stored maximum is that one. -/
theorem stored_max (r : Fin 1024) : k0_pay18 (k0_pay11 x3 xn) m (ix2 r 0) = k0_pay16 (k0_pay11 x3 xn) m (ix2 r 0) := by
  pointwise [k0_pay18]

/-- A sum over the cameras of a sum over the chunk's columns of the camera, against the row's one-hot camera: the sum over the columns of the row's camera. -/
theorem own (H : Carried C cam tg l y K m s t c xn lt oh) (B : Blocks C cam tg l y K x2 x3 x4) (r : Fin 1024) (f : Fin 2048 → EReal) :
    (∑ h : Fin 8, (∑ j : Fin 2048, f j * k0_pay12 (F := Ideal) x4 (ix2 h j)) * oh (ix2 r h))
      = ∑ j : Fin 2048, if C (K + j.val) = cam r then f j else 0 := by
  obtain ⟨h, hr⟩ := B.known r
  simp only [H.oh, hr]
  rw [pick (fun h => ∑ j : Fin 2048, f j * k0_pay12 (F := Ideal) x4 (ix2 h j)) h]
  refine Finset.sum_congr rfl fun j _ => ?_
  rw [ind B, mul_ite, mul_one, mul_zero]

/-- The running sum after the chunk, against the new maximum. -/
theorem new_sum (H : Carried C cam tg l y K m s t c xn lt oh) (B : Blocks C cam tg l y K x2 x3 x4) (r : Fin 1024) (ν : ℝ)
    (hν : k0_pay16 (k0_pay11 x3 xn) m (ix2 r 0) = (ν : EReal)) :
    k0_pay17 (k0_pay11 x3 xn) (k0_pay12 x4) m oh s (ix2 r 0) = ((expSum C (cam r) (l r) ν (K + 2048) : ℝ) : EReal) := by
  obtain ⟨μ, hμ, hs⟩ := H.ms r
  rw [pay17_at, own H B r (fun j => Ideal.exp (k0_pay11 x3 xn (ix2 r j) - k0_pay16 (k0_pay11 x3 xn) m (ix2 r 0))), hν, hμ, hs, ← EReal.coe_sub, exp_coe,
    ← EReal.coe_mul, expSum_shift, expSum_add, EReal.coe_add, coe_sum]
  refine congrArg (fun z : EReal => _ + z) ?_
  refine Finset.sum_congr rfl fun j _ => ?_
  rw [sims H B, ← EReal.coe_sub, exp_coe, coe_ite]
  rfl

/-- The target's logit after the chunk. -/
theorem new_hit (H : Carried C cam tg l y K m s t c xn lt oh) (B : Blocks C cam tg l y K x2 x3 x4) (r : Fin 1024) :
    k0_pay1 (k0_pay19 (k0_pay11 x3 xn) (k0_pay12 x4) (k0_pay14 x4 lt c) oh x2 t) (ix2 r 0)
      = ((hit C (cam r) (tg r) (l r) (K + 2048) : ℝ) : EReal) := by
  rw [pay1_at, pay19_at, own H B r (fun j => if k0_pay14 x4 lt c (ix2 0 j) = FloatOps.sitofp FTy.f32 (x2 (ix2 r 0)) then k0_pay11 x3 xn (ix2 r j) else 0),
    H.t, hit_add, EReal.coe_add, coe_sum]
  refine congrArg (fun z : EReal => _ + z) ?_
  refine Finset.sum_congr rfl fun j _ => ?_
  obtain ⟨h, hr⟩ := B.known r
  rw [B.tg, sims H B, coe_ite]
  by_cases hc : C (K + j.val) = cam r
  · rw [if_pos hc, ranks H B j h (hc.trans hr)]
    have e : ((((rank C (K + j.val) : ℕ) : ℝ) : EReal) = (FloatOps.sitofp FTy.f32 (tg r) : Ideal .f32)) ↔ ((rank C (K + j.val) : ℤ) = (tg r).toInt) := by
      show (((rank C (K + j.val) : ℕ) : ℝ) : EReal) = ((((tg r).toInt : ℤ) : ℝ) : EReal) ↔ _
      rw [EReal.coe_eq_coe_iff]
      constructor
      · intro h; exact_mod_cast h
      · intro h; exact_mod_cast h
    simp only [hc, true_and, e]
    rfl
  · rw [if_neg hc, if_neg (fun h => hc h.1)]
    rfl

/-- One chunk carries the state from `K` columns to `K + 2048`. -/
theorem Carried.step (H : Carried C cam tg l y K m s t c xn lt oh) (B : Blocks C cam tg l y K x2 x3 x4) :
    Carried C cam tg l y (K + 2048) (k0_pay18 (k0_pay11 x3 xn) m) (k0_pay17 (k0_pay11 x3 xn) (k0_pay12 x4) m oh s)
      (k0_pay1 (k0_pay19 (k0_pay11 x3 xn) (k0_pay12 x4) (k0_pay14 x4 lt c) oh x2 t)) (k0_pay15 x4 c) xn lt oh where
  ms := fun r => by
    obtain ⟨ν, hν⟩ := new_max H B r
    exact ⟨ν, (stored_max r).trans hν, new_sum H B r ν hν⟩
  t := new_hit H B
  c := counts H B
  xn := H.xn
  lt := H.lt
  oh := H.oh

/-- The state the first chunk starts from: nothing summed, nothing counted, the tables computed from the features and the cameras. -/
theorem carried_zero (x0 : Vec Ideal S1024x64 .f32) (x1 : Vec Ideal S1024x1 .i32) (hcam : ∀ r : Fin 1024, x1 (ix2 r 0) = cam r)
    (hy : ∀ (r : Fin 1024) (k : Fin 64), Ideal.div (x0 (ix2 r k)) (floored (∑ i : Fin 64, x0 (ix2 r i) * x0 (ix2 r i)) * Ideal.ofBits .f32 0x3D4CCCCD#32) = (y r k : EReal)) :
    Carried C cam tg l y 0 (k0_pay3 (F := Ideal)) (k0_pay4 (F := Ideal)) (k0_pay5 (F := Ideal)) (k0_pay6 (F := Ideal)) (k0_pay7 x0) (k0_pay9 (F := Ideal) k0_pay8) (k0_pay10 x1) where
  ms := fun r => by
    obtain ⟨μ, hμ⟩ := start_real
    refine ⟨μ, ?_, ?_⟩
    · pointwise [k0_pay3]
      exact hμ
    · pointwise [k0_pay4]
      simp [expSum]
  t := fun r => by
    pointwise [k0_pay5]
    simp [hit]
  c := fun h => by
    pointwise [k0_pay6]
    simp
  xn := fun r k => by
    pointwise [k0_pay7]
    exact hy r k
  lt := fun i j => by
    pointwise [k0_pay8, k0_pay9]
    exact le_word i j
  oh := fun r h => by
    pointwise [k0_pay10]
    rw [hcam]
    exact eq_word _ _

/-- The result block of a state over all `K` columns: the sum of the rows' losses over the word the kernel divides by. -/
theorem loss_block (H : Carried C cam tg l y K m s t c xn lt oh) (j : S1x1.Idx) :
    k0_pay2 s m t j = Ideal.div ((∑ r : Fin 1024, rowLoss C (cam r) (tg r) (l r) K : ℝ) : EReal) (Ideal.ofBits .f32 0x44800000#32) := by
  pointwise [k0_pay2]
  refine congrArg (fun z : EReal => Ideal.div z _) ?_
  rw [coe_sum]
  refine Finset.sum_congr rfl fun r _ => ?_
  obtain ⟨μ, hμ, hs⟩ := H.ms r
  rw [hμ, hs, H.t]
  unfold rowLoss
  have e : 0 < expSum C (cam r) (l r) 0 K ↔ 0 < expSum C (cam r) (l r) μ K := by rw [expSum_pos_iff, expSum_pos_iff]
  by_cases hp : 0 < expSum C (cam r) (l r) μ K
  · rw [if_pos (by exact_mod_cast hp), if_pos (e.2 hp), log_coe hp, ← EReal.coe_add, ← EReal.coe_sub, log_expSum _ _ _ _ _ hp]
  · rw [if_neg (by exact_mod_cast hp), if_neg (fun h => hp (e.1 h))]
    rfl

end Cert.KernelIdeal.Chunk

end

end
-- ==== Proof.Pieces.lean ====
/-
  What one run of the kernel's body leaves in each of its scratch buffers, and in the result block, as an expression in
  the payloads of the body (`k0_payN`): one theorem per buffer and per case of the grid point (case A is the first chunk
  of columns, case B a middle one, case C the last). The scratches are, in order: the running maximum `m`, the running
  sum `s`, the target's logit `t`, the per-camera counts `c`, the scaled features `xn`, the triangular mask `lt` and the
  one-hot camera rows `oh`. Inside a case, `x0` … `x4` are the blocks the point reads and `xs0` … `xs6` what the
  scratches held before it.
-/
module

public import proofs.«01_k».proof.Proof.Gen.KernelIdeal.Frame
public import Idealize.ShloMosaic.Lib.Pipeline.Value
public import Idealize.ShloMosaic.Lib.Tactic

@[expose] public section

noncomputable section

namespace Cert.KernelIdeal.Pieces

open Cert.KernelIdeal Cert.KernelIdeal.Gen Idealize.ShloMosaic Idealize.ShloMosaic.TcCoe Idealize.SL.Sem

variable {F : FTy → Type} [FloatOps F]

/-- Two zero offsets, as the run writes them, are the zero offsets. -/
theorem off2 : (![0, 0] : Fin 2 → Nat) = fun _ => 0 := funext fun a => by fin_cases a <;> rfl

/-- Three zero offsets, as the run writes them, are the zero offsets. -/
theorem off3 : (![0, 0, 0] : Fin 3 → Nat) = fun _ => 0 := funext fun a => by fin_cases a <;> rfl

variable (c : Dev nD) (i : grid0.Coords)
  (a1 : Memref sig .tc .vmem S1024x64 .f32) (h1 : a1.IsWhole)
  (a2 : Memref sig .tc .vmem S1024x1 .i32) (h2 : a2.IsWhole)
  (a3 : Memref sig .tc .vmem S1024x1 .i32) (h3 : a3.IsWhole)
  (a4 : Memref sig .tc .vmem S2048x64 .f32) (h4 : a4.IsWhole)
  (a5 : Memref sig .tc .vmem S1x1x2048 .i32) (h5 : a5.IsWhole)
  (a6 : Memref sig .tc .vmem S1x1 .f32) (h6 : a6.IsWhole)
  (a7 : Memref sig .tc .vmem S1024x1 .f32) (h7 : a7.IsWhole)
  (a8 : Memref sig .tc .vmem S1024x1 .f32) (h8 : a8.IsWhole)
  (a9 : Memref sig .tc .vmem S1024x1 .f32) (h9 : a9.IsWhole)
  (a10 : Memref sig .tc .vmem S8x1 .f32) (h10 : a10.IsWhole)
  (a11 : Memref sig .tc .vmem S1024x64 .bf16) (h11 : a11.IsWhole)
  (a12 : Memref sig .tc .vmem S2048x2048 .bf16) (h12 : a12.IsWhole)
  (a13 : Memref sig .tc .vmem S1024x8 .f32) (h13 : a13.IsWhole)
  (x0 : Vec F S1024x64 .f32) (x1 : Vec F S1024x1 .i32) (x2 : Vec F S1024x1 .i32) (x3 : Vec F S2048x64 .f32) (x4 : Vec F S1x1x2048 .i32)
  (xs0 xs1 xs2 : Vec F S1024x1 .f32) (xs3 : Vec F S8x1 .f32) (xs4 : Vec F S1024x64 .bf16) (xs5 : Vec F S2048x2048 .bf16) (xs6 : Vec F S1024x8 .f32)

/-- The first chunk leaves the new running maximum in `m`. -/
theorem m_A (hc0 : cond0_0 i) (hc1 : ¬cond0_1 i) :
    sout0_A_0 c i a1 h1 a2 h2 a3 h3 a4 h4 a5 h5 a6 h6 a7 h7 a8 h8 a9 h9 a10 h10 a11 h11 a12 h12 a13 h13 hc0 hc1 x0 x1 x2 x3 x4 = k0_pay18 (k0_pay11 x3 (k0_pay7 x0)) k0_pay3 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  rw [View.canon_cons_unit_zero (S := S1024x1) off2]
  simp only [View.readCov_unit_zero (S := S1024x1) _ off2, View.readCov_unit_zero (S := S8x1) _ off2, View.readCov_unit_zero (S := S1024x64) _ off2, View.readCov_unit_zero (S := S2048x2048) _ off2, View.readCov_unit_zero (S := S1024x8) _ off2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S1024x64) off2, View.ld_unit_zero (S := S1024x1) off2, View.ld_unit_zero (S := S2048x64) off2, View.ld_unit_zero (S := S8x1) off2, View.ld_unit_zero (S := S2048x2048) off2, View.ld_unit_zero (S := S1024x8) off2, View.ld_unit_zero (S := S1x1x2048) off3]

/-- The first chunk leaves the rescaled and extended running sum in `s`. -/
theorem s_A (hc0 : cond0_0 i) (hc1 : ¬cond0_1 i) :
    sout0_A_1 c i a1 h1 a2 h2 a3 h3 a4 h4 a5 h5 a6 h6 a7 h7 a8 h8 a9 h9 a10 h10 a11 h11 a12 h12 a13 h13 hc0 hc1 x0 x1 x2 x3 x4 = k0_pay17 (k0_pay11 x3 (k0_pay7 x0)) (k0_pay12 x4) k0_pay3 (k0_pay10 x1) k0_pay4 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  rw [View.canon_cons_unit_zero (S := S1024x1) off2]
  simp only [View.readCov_unit_zero (S := S1024x1) _ off2, View.readCov_unit_zero (S := S8x1) _ off2, View.readCov_unit_zero (S := S1024x64) _ off2, View.readCov_unit_zero (S := S2048x2048) _ off2, View.readCov_unit_zero (S := S1024x8) _ off2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S1024x64) off2, View.ld_unit_zero (S := S1024x1) off2, View.ld_unit_zero (S := S2048x64) off2, View.ld_unit_zero (S := S8x1) off2, View.ld_unit_zero (S := S2048x2048) off2, View.ld_unit_zero (S := S1024x8) off2, View.ld_unit_zero (S := S1x1x2048) off3]

/-- The first chunk leaves the target's logit so far in `t`. -/
theorem t_A (hc0 : cond0_0 i) (hc1 : ¬cond0_1 i) :
    sout0_A_2 c i a1 h1 a2 h2 a3 h3 a4 h4 a5 h5 a6 h6 a7 h7 a8 h8 a9 h9 a10 h10 a11 h11 a12 h12 a13 h13 hc0 hc1 x0 x1 x2 x3 x4 = k0_pay1 (k0_pay19 (k0_pay11 x3 (k0_pay7 x0)) (k0_pay12 x4) (k0_pay14 x4 (k0_pay9 k0_pay8) k0_pay6) (k0_pay10 x1) x2 k0_pay5) := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  rw [View.canon_cons_unit_zero (S := S1024x1) off2]
  simp only [View.readCov_unit_zero (S := S1024x1) _ off2, View.readCov_unit_zero (S := S8x1) _ off2, View.readCov_unit_zero (S := S1024x64) _ off2, View.readCov_unit_zero (S := S2048x2048) _ off2, View.readCov_unit_zero (S := S1024x8) _ off2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S1024x64) off2, View.ld_unit_zero (S := S1024x1) off2, View.ld_unit_zero (S := S2048x64) off2, View.ld_unit_zero (S := S8x1) off2, View.ld_unit_zero (S := S2048x2048) off2, View.ld_unit_zero (S := S1024x8) off2, View.ld_unit_zero (S := S1x1x2048) off3]

/-- The first chunk leaves the counts so far in `c`. -/
theorem c_A (hc0 : cond0_0 i) (hc1 : ¬cond0_1 i) :
    sout0_A_3 c i a1 h1 a2 h2 a3 h3 a4 h4 a5 h5 a6 h6 a7 h7 a8 h8 a9 h9 a10 h10 a11 h11 a12 h12 a13 h13 hc0 hc1 x0 x1 x2 x3 x4 = k0_pay15 x4 k0_pay6 := by
  unfold sout0_A_3
  rw [View.read_writes_eq_canon _ _ _ (scover0_A_3 c i a1 h1 a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  rw [View.canon_cons_unit_zero (S := S8x1) off2]
  simp only [View.readCov_unit_zero (S := S1024x1) _ off2, View.readCov_unit_zero (S := S8x1) _ off2, View.readCov_unit_zero (S := S1024x64) _ off2, View.readCov_unit_zero (S := S2048x2048) _ off2, View.readCov_unit_zero (S := S1024x8) _ off2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S1024x64) off2, View.ld_unit_zero (S := S1024x1) off2, View.ld_unit_zero (S := S2048x64) off2, View.ld_unit_zero (S := S8x1) off2, View.ld_unit_zero (S := S2048x2048) off2, View.ld_unit_zero (S := S1024x8) off2, View.ld_unit_zero (S := S1x1x2048) off3]

/-- The first chunk leaves the scaled features in `xn`. -/
theorem xn_A (hc0 : cond0_0 i) (hc1 : ¬cond0_1 i) :
    sout0_A_4 c i a1 h1 a2 h2 a3 h3 a4 h4 a5 h5 a6 h6 a7 h7 a8 h8 a9 h9 a10 h10 a11 h11 a12 h12 a13 h13 hc0 hc1 x0 x1 x2 x3 x4 = k0_pay7 x0 := by
  unfold sout0_A_4
  rw [View.read_writes_eq_canon _ _ _ (scover0_A_4 c i a1 h1 a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  rw [View.canon_unit_zero off2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S1024x64) off2, View.ld_unit_zero (S := S1024x1) off2, View.ld_unit_zero (S := S2048x64) off2, View.ld_unit_zero (S := S8x1) off2, View.ld_unit_zero (S := S2048x2048) off2, View.ld_unit_zero (S := S1024x8) off2, View.ld_unit_zero (S := S1x1x2048) off3]

/-- The first chunk leaves the triangular mask in `lt`. -/
theorem lt_A (hc0 : cond0_0 i) (hc1 : ¬cond0_1 i) :
    sout0_A_5 c i a1 h1 a2 h2 a3 h3 a4 h4 a5 h5 a6 h6 a7 h7 a8 h8 a9 h9 a10 h10 a11 h11 a12 h12 a13 h13 hc0 hc1 x0 x1 x2 x3 x4 = k0_pay9 k0_pay8 := by
  unfold sout0_A_5
  rw [View.read_writes_eq_canon _ _ _ (scover0_A_5 c i a1 h1 a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  rw [View.canon_unit_zero off2]

/-- The first chunk leaves the one-hot camera rows in `oh`. -/
theorem oh_A (hc0 : cond0_0 i) (hc1 : ¬cond0_1 i) :
    sout0_A_6 c i a1 h1 a2 h2 a3 h3 a4 h4 a5 h5 a6 h6 a7 h7 a8 h8 a9 h9 a10 h10 a11 h11 a12 h12 a13 h13 hc0 hc1 x0 x1 x2 x3 x4 = k0_pay10 x1 := by
  unfold sout0_A_6
  rw [View.read_writes_eq_canon _ _ _ (scover0_A_6 c i a1 h1 a2 h2 a3 h3 a4 h4 a5 h5 a6 h6 a7 h7 a8 h8 a9 h9 a10 h10 a11 h11 a12 h12 a13 h13 hc0 hc1 x0 x1 x2 x3 x4)]
  unfold kernelRun0_A
  dsimp only
  sl_unfold_words
  rw [View.canon_unit_zero off2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S1024x64) off2, View.ld_unit_zero (S := S1024x1) off2, View.ld_unit_zero (S := S2048x64) off2, View.ld_unit_zero (S := S8x1) off2, View.ld_unit_zero (S := S2048x2048) off2, View.ld_unit_zero (S := S1024x8) off2, View.ld_unit_zero (S := S1x1x2048) off3]

/-- The middle chunk leaves the new running maximum in `m`. -/
theorem m_B (hc0 : ¬cond0_0 i) (hc1 : ¬cond0_1 i) :
    sout0_B_0 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6 = k0_pay18 (k0_pay11 x3 xs4) xs0 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6)]
  unfold kernelRun0_B
  dsimp only
  sl_unfold_words
  rw [View.canon_unit_zero off2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S1024x64) off2, View.ld_unit_zero (S := S1024x1) off2, View.ld_unit_zero (S := S2048x64) off2, View.ld_unit_zero (S := S8x1) off2, View.ld_unit_zero (S := S2048x2048) off2, View.ld_unit_zero (S := S1024x8) off2, View.ld_unit_zero (S := S1x1x2048) off3]

/-- The middle chunk leaves the rescaled and extended running sum in `s`. -/
theorem s_B (hc0 : ¬cond0_0 i) (hc1 : ¬cond0_1 i) :
    sout0_B_1 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6 = k0_pay17 (k0_pay11 x3 xs4) (k0_pay12 x4) xs0 xs6 xs1 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6)]
  unfold kernelRun0_B
  dsimp only
  sl_unfold_words
  rw [View.canon_unit_zero off2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S1024x64) off2, View.ld_unit_zero (S := S1024x1) off2, View.ld_unit_zero (S := S2048x64) off2, View.ld_unit_zero (S := S8x1) off2, View.ld_unit_zero (S := S2048x2048) off2, View.ld_unit_zero (S := S1024x8) off2, View.ld_unit_zero (S := S1x1x2048) off3]

/-- The middle chunk leaves the target's logit so far in `t`. -/
theorem t_B (hc0 : ¬cond0_0 i) (hc1 : ¬cond0_1 i) :
    sout0_B_2 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6 = k0_pay1 (k0_pay19 (k0_pay11 x3 xs4) (k0_pay12 x4) (k0_pay14 x4 xs5 xs3) xs6 x2 xs2) := by
  unfold sout0_B_2
  rw [View.read_writes_eq_canon _ _ _ (scover0_B_2 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6)]
  unfold kernelRun0_B
  dsimp only
  sl_unfold_words
  rw [View.canon_unit_zero off2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S1024x64) off2, View.ld_unit_zero (S := S1024x1) off2, View.ld_unit_zero (S := S2048x64) off2, View.ld_unit_zero (S := S8x1) off2, View.ld_unit_zero (S := S2048x2048) off2, View.ld_unit_zero (S := S1024x8) off2, View.ld_unit_zero (S := S1x1x2048) off3]

/-- The middle chunk leaves the counts so far in `c`. -/
theorem c_B (hc0 : ¬cond0_0 i) (hc1 : ¬cond0_1 i) :
    sout0_B_3 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6 = k0_pay15 x4 xs3 := by
  unfold sout0_B_3
  rw [View.read_writes_eq_canon _ _ _ (scover0_B_3 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6)]
  unfold kernelRun0_B
  dsimp only
  sl_unfold_words
  rw [View.canon_unit_zero off2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S1024x64) off2, View.ld_unit_zero (S := S1024x1) off2, View.ld_unit_zero (S := S2048x64) off2, View.ld_unit_zero (S := S8x1) off2, View.ld_unit_zero (S := S2048x2048) off2, View.ld_unit_zero (S := S1024x8) off2, View.ld_unit_zero (S := S1x1x2048) off3]

/-- The last chunk leaves the new running maximum in `m`. -/
theorem m_C (hc0 : ¬cond0_0 i) (hc1 : cond0_1 i) :
    sout0_C_0 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6 = k0_pay18 (k0_pay11 x3 xs4) xs0 := by
  unfold sout0_C_0
  rw [View.read_writes_eq_canon _ _ _ (scover0_C_0 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6)]
  unfold kernelRun0_C
  dsimp only
  sl_unfold_words
  rw [View.canon_unit_zero off2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S1024x64) off2, View.ld_unit_zero (S := S1024x1) off2, View.ld_unit_zero (S := S2048x64) off2, View.ld_unit_zero (S := S8x1) off2, View.ld_unit_zero (S := S2048x2048) off2, View.ld_unit_zero (S := S1024x8) off2, View.ld_unit_zero (S := S1x1x2048) off3]

/-- The last chunk leaves the rescaled and extended running sum in `s`. -/
theorem s_C (hc0 : ¬cond0_0 i) (hc1 : cond0_1 i) :
    sout0_C_1 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6 = k0_pay17 (k0_pay11 x3 xs4) (k0_pay12 x4) xs0 xs6 xs1 := by
  unfold sout0_C_1
  rw [View.read_writes_eq_canon _ _ _ (scover0_C_1 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6)]
  unfold kernelRun0_C
  dsimp only
  sl_unfold_words
  rw [View.canon_unit_zero off2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S1024x64) off2, View.ld_unit_zero (S := S1024x1) off2, View.ld_unit_zero (S := S2048x64) off2, View.ld_unit_zero (S := S8x1) off2, View.ld_unit_zero (S := S2048x2048) off2, View.ld_unit_zero (S := S1024x8) off2, View.ld_unit_zero (S := S1x1x2048) off3]

/-- The last chunk leaves the target's logit so far in `t`. -/
theorem t_C (hc0 : ¬cond0_0 i) (hc1 : cond0_1 i) :
    sout0_C_2 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6 = k0_pay1 (k0_pay19 (k0_pay11 x3 xs4) (k0_pay12 x4) (k0_pay14 x4 xs5 xs3) xs6 x2 xs2) := by
  unfold sout0_C_2
  rw [View.read_writes_eq_canon _ _ _ (scover0_C_2 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6)]
  unfold kernelRun0_C
  dsimp only
  sl_unfold_words
  rw [View.canon_unit_zero off2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S1024x64) off2, View.ld_unit_zero (S := S1024x1) off2, View.ld_unit_zero (S := S2048x64) off2, View.ld_unit_zero (S := S8x1) off2, View.ld_unit_zero (S := S2048x2048) off2, View.ld_unit_zero (S := S1024x8) off2, View.ld_unit_zero (S := S1x1x2048) off3]

/-- The last chunk leaves the counts so far in `c`. -/
theorem c_C (hc0 : ¬cond0_0 i) (hc1 : cond0_1 i) :
    sout0_C_3 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6 = k0_pay15 x4 xs3 := by
  unfold sout0_C_3
  rw [View.read_writes_eq_canon _ _ _ (scover0_C_3 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6)]
  unfold kernelRun0_C
  dsimp only
  sl_unfold_words
  rw [View.canon_unit_zero off2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S1024x64) off2, View.ld_unit_zero (S := S1024x1) off2, View.ld_unit_zero (S := S2048x64) off2, View.ld_unit_zero (S := S8x1) off2, View.ld_unit_zero (S := S2048x2048) off2, View.ld_unit_zero (S := S1024x8) off2, View.ld_unit_zero (S := S1x1x2048) off3]

/-- The last chunk leaves in the result block the mean over the rows of `m + log s - t`, of the scratches it has just written. -/
theorem loss_C (hc0 : ¬cond0_0 i) (hc1 : cond0_1 i) :
    out0_C_5 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6
      = k0_pay2 (k0_pay17 (k0_pay11 x3 xs4) (k0_pay12 x4) xs0 xs6 xs1) (k0_pay18 (k0_pay11 x3 xs4) xs0)
          (k0_pay1 (k0_pay19 (k0_pay11 x3 xs4) (k0_pay12 x4) (k0_pay14 x4 xs5 xs3) xs6 x2 xs2)) := by
  unfold out0_C_5
  rw [View.read_writes_eq_canon _ _ _ (cover0_C_5 c i a1 h1 a2 h2 a3 h3 a4 h4 a5 h5 a6 h6 a7 h7 a8 h8 a9 h9 a10 h10 a11 h11 a12 h12 a13 h13 hc0 hc1 x0 x1 x2 x3 x4 xs0 xs1 xs2 xs3 xs4 xs5 xs6)]
  unfold kernelRun0_C
  dsimp only
  sl_unfold_words
  rw [View.canon_unit_zero off2]
  simp only [View.readCov_unit_zero (S := S1024x1) _ off2]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S1024x64) off2, View.ld_unit_zero (S := S1024x1) off2, View.ld_unit_zero (S := S2048x64) off2, View.ld_unit_zero (S := S8x1) off2, View.ld_unit_zero (S := S2048x2048) off2, View.ld_unit_zero (S := S1024x8) off2, View.ld_unit_zero (S := S1x1x2048) off3]

end Cert.KernelIdeal.Pieces

end

end
-- ==== Proof.Sweep.lean ====
/-
  The kernel's chunks in a row: after point `n` the scratches hold what they should hold of the columns before
  `2048 * (n + 1)`, and the block the last point leaves is the loss over all the columns, the padding's included.
-/
module

public import proofs.«01_k».proof.Proof.Chunk
public import proofs.«01_k».proof.Proof.Pieces

@[expose] public section

noncomputable section

namespace Cert.KernelIdeal.Sweep

open Cert.KernelIdeal Cert.KernelIdeal.Gen Idealize.ShloMosaic Idealize.ShloMosaic.TcCoe Idealize.SL.Sem
open Cert.Nll

variable (m : (ℓ : Loc nD τ sig) → Buf (Elt Ideal) ℓ) (c : Dev nD)
variable (C : ℕ → BitVec 32) (cam tg : Fin 1024 → BitVec 32) (l : Fin 1024 → ℕ → ℝ) (y : Fin 1024 → Fin 64 → ℝ)

/-- The scratches after point `n` hold what they should hold of the columns before `K`. -/
def Holds (n : ℕ) (hn : n < cfg0.N) (K : ℕ) : Prop :=
  Chunk.Carried C cam tg l y K (outsAt0 m c n hn).2.1 (outsAt0 m c n hn).2.2.1 (outsAt0 m c n hn).2.2.2.1 (outsAt0 m c n hn).2.2.2.2.1
    (outsAt0 m c n hn).2.2.2.2.2.1 (outsAt0 m c n hn).2.2.2.2.2.2.1 (outsAt0 m c n hn).2.2.2.2.2.2.2

variable {C cam tg l y}

/-- The first point starts from nothing. -/
theorem first (t : Fin cfg0.N) (h0 : t.val % 49 = 0) (h1 : ¬t.val % 49 = 48)
    (B : Chunk.Blocks C cam tg l y 0 (iblk m c 2 t) (iblk m c 3 t) (iblk m c 4 t))
    (Z : Chunk.Carried C cam tg l y 0 (k0_pay3 (F := Ideal)) (k0_pay4 (F := Ideal)) (k0_pay5 (F := Ideal)) (k0_pay6 (F := Ideal))
      (k0_pay7 (iblk m c 0 t)) (k0_pay9 (F := Ideal) k0_pay8) (k0_pay10 (iblk m c 1 t))) :
    Holds m c C cam tg l y t.val t.isLt (0 + 2048) := by
  unfold Holds
  rw [outsAt0_A m c t h0 h1]
  dsimp only
  rw [Pieces.m_A, Pieces.s_A, Pieces.t_A, Pieces.c_A, Pieces.xn_A, Pieces.lt_A, Pieces.oh_A]
  exact Z.step B

/-- A middle point adds its chunk. -/
theorem middle (t : Fin cfg0.N) (h0 : ¬t.val % 49 = 0) (h1 : ¬t.val % 49 = 48) (K : ℕ)
    (B : Chunk.Blocks C cam tg l y K (iblk m c 2 t) (iblk m c 3 t) (iblk m c 4 t))
    (H : Holds m c C cam tg l y (t.val - 1) (Nat.lt_of_le_of_lt (Nat.sub_le _ _) t.isLt) K) :
    Holds m c C cam tg l y t.val t.isLt (K + 2048) := by
  unfold Holds at H ⊢
  rw [outsAt0_B m c t h0 h1]
  dsimp only
  rw [Pieces.m_B, Pieces.s_B, Pieces.t_B, Pieces.c_B]
  exact H.step B

/-- The last point adds its chunk and leaves the loss. -/
theorem last (t : Fin cfg0.N) (h0 : ¬t.val % 49 = 0) (h1 : t.val % 49 = 48) (K : ℕ)
    (B : Chunk.Blocks C cam tg l y K (iblk m c 2 t) (iblk m c 3 t) (iblk m c 4 t))
    (H : Holds m c C cam tg l y (t.val - 1) (Nat.lt_of_le_of_lt (Nat.sub_le _ _) t.isLt) K) (j : S1x1.Idx) :
    (outsAt0 m c t.val t.isLt).1 j = Ideal.div ((∑ r : Fin 1024, rowLoss C (cam r) (tg r) (l r) (K + 2048) : ℝ) : EReal) (Ideal.ofBits .f32 0x44800000#32) := by
  unfold Holds at H
  rw [outsAt0_C m c t h0 h1]
  dsimp only
  rw [Pieces.loss_C]
  exact Chunk.loss_block (H.step B) j

/-- After every point before the last the scratches hold what they should. -/
theorem holds (hB : ∀ t : Fin cfg0.N, Chunk.Blocks C cam tg l y (t.val * 2048) (iblk m c 2 t) (iblk m c 3 t) (iblk m c 4 t))
    (hcam : ∀ (t : Fin cfg0.N) (r : Fin 1024), (iblk m c 1 t (ix2 r 0) : BitVec 32) = cam r)
    (x0 : Vec Ideal S1024x64 .f32) (hx : ∀ t : Fin cfg0.N, iblk m c 0 t = x0)
    (hy : ∀ (r : Fin 1024) (k : Fin 64), Ideal.div (x0 (ix2 r k)) (floored (∑ i : Fin 64, x0 (ix2 r i) * x0 (ix2 r i)) * Ideal.ofBits .f32 0x3D4CCCCD#32) = (y r k : EReal)) :
    ∀ (n : ℕ) (hn : n < cfg0.N), n < 48 → Holds m c C cam tg l y n hn (n * 2048 + 2048) := by
  intro n
  induction n with
  | zero =>
    intro hn _
    have B := hB ⟨0, hn⟩
    rw [Nat.zero_mul] at B ⊢
    have Z : Chunk.Carried C cam tg l y 0 (k0_pay3 (F := Ideal)) (k0_pay4 (F := Ideal)) (k0_pay5 (F := Ideal)) (k0_pay6 (F := Ideal))
        (k0_pay7 (iblk m c 0 ⟨0, hn⟩)) (k0_pay9 (F := Ideal) k0_pay8) (k0_pay10 (iblk m c 1 ⟨0, hn⟩)) := by
      rw [hx]
      exact Chunk.carried_zero x0 (iblk m c 1 ⟨0, hn⟩) (hcam ⟨0, hn⟩) hy
    exact first m c ⟨0, hn⟩ (Nat.zero_mod 49) (show ¬0 % 49 = 48 by decide) B Z
  | succ n ih =>
    intro hn h
    have H := ih (Nat.lt_of_succ_lt hn) (by omega)
    rw [← Nat.succ_mul] at H
    exact middle m c ⟨n + 1, hn⟩ (by dsimp only; omega) (by dsimp only; omega) _ (hB ⟨n + 1, hn⟩) H

/-- What the last point leaves in the result block. -/
theorem result (hB : ∀ t : Fin cfg0.N, Chunk.Blocks C cam tg l y (t.val * 2048) (iblk m c 2 t) (iblk m c 3 t) (iblk m c 4 t))
    (hcam : ∀ (t : Fin cfg0.N) (r : Fin 1024), (iblk m c 1 t (ix2 r 0) : BitVec 32) = cam r)
    (x0 : Vec Ideal S1024x64 .f32) (hx : ∀ t : Fin cfg0.N, iblk m c 0 t = x0)
    (hy : ∀ (r : Fin 1024) (k : Fin 64), Ideal.div (x0 (ix2 r k)) (floored (∑ i : Fin 64, x0 (ix2 r i) * x0 (ix2 r i)) * Ideal.ofBits .f32 0x3D4CCCCD#32) = (y r k : EReal))
    (t : Fin cfg0.N) (ht : t.val = 48) (j : S1x1.Idx) :
    (outsAt0 m c t.val t.isLt).1 j = Ideal.div ((∑ r : Fin 1024, rowLoss C (cam r) (tg r) (l r) (100000 + 352) : ℝ) : EReal) (Ideal.ofBits .f32 0x44800000#32) := by
  have H := holds m c hB hcam x0 hx hy (t.val - 1) (Nat.lt_of_le_of_lt (Nat.sub_le _ _) t.isLt) (by omega)
  have e : (t.val - 1) * 2048 + 2048 = t.val * 2048 := by omega
  have e' : 100000 + 352 = t.val * 2048 + 2048 := by omega
  rw [e] at H
  rw [e']
  exact last m c t (by omega) (by omega) (t.val * 2048) (hB t) H j

end Cert.KernelIdeal.Sweep

end

end
-- ==== Proof.Loss.lean ====
/-
  The loss both programs compute, as a function of the arrays' entries: features `a0`, targets `a1`, cameras `a2`, proxies
  `a3`, the proxies' cameras `a5`. Where the proxies are reals, the kernel's logit (the feature scaled by its norm and the
  temperature at once) and the reference's (the quotient by the temperature taken of the whole product) are one real.
-/
module

public import proofs.«01_k».proof.Proof.Spec
public import proofs.«01_k».proof.Proof.Reals

@[expose] public section

noncomputable section

namespace Cert.Nll

open Idealize.ShloMosaic Finset

/-- The camera of every column, the columns past the array carrying the padding's camera 8. -/
def words (a5 : Fin 100000 → BitVec 32) (j : ℕ) : BitVec 32 := if h : j < 100000 then a5 ⟨j, h⟩ else 8#32

/-- The scaled features: over their row's floored norm and the temperature. -/
def scale (a0 : Fin 1024 → Fin 64 → EReal) (r : Fin 1024) (k : Fin 64) : ℝ :=
  (Ideal.div (a0 r k) (floored (∑ i, a0 r i * a0 r i) * Ideal.ofBits .f32 0x3D4CCCCD#32)).toReal

/-- The logit of row `r` and column `j`, zero past the array. -/
def logit (a0 : Fin 1024 → Fin 64 → EReal) (a3 : Fin 100000 → Fin 64 → EReal) (r : Fin 1024) (j : ℕ) : ℝ :=
  if h : j < 100000 then ∑ k, scale a0 r k * (a3 ⟨j, h⟩ k).toReal else 0

/-- The mean over the rows of what they lose. -/
def loss (a0 : Fin 1024 → Fin 64 → EReal) (a1 a2 : Fin 1024 → BitVec 32) (a3 : Fin 100000 → Fin 64 → EReal) (a5 : Fin 100000 → BitVec 32) : EReal :=
  Ideal.div ((∑ r, rowLoss (words a5) (a2 r) (a1 r) (logit a0 a3 r) 100000 : ℝ) : EReal) (Ideal.ofBits .f32 0x44800000#32)

/-- The scaled feature is what the kernel computes. -/
theorem scale_coe (a0 : Fin 1024 → Fin 64 → EReal) (r : Fin 1024) (k : Fin 64) :
    Ideal.div (a0 r k) (floored (∑ i, a0 r i * a0 r i) * Ideal.ofBits .f32 0x3D4CCCCD#32) = (scale a0 r k : EReal) := by
  obtain ⟨T, hT, e⟩ := temp_pos
  obtain ⟨y, -, hy⟩ := scaled (a0 r) k
  unfold scale
  rw [e, hy T hT, EReal.toReal_coe]

/-- The kernel's logit. -/
theorem logit_scaled (a0 : Fin 1024 → Fin 64 → EReal) (a3 : Fin 100000 → Fin 64 → EReal) (ha : ∀ j k, ∃ p : ℝ, a3 j k = (p : EReal))
    (r : Fin 1024) (j : ℕ) (h : j < 100000) : (∑ k, (scale a0 r k : EReal) * a3 ⟨j, h⟩ k) = (logit a0 a3 r j : EReal) := by
  unfold logit
  rw [dif_pos h, coe_sum]
  refine sum_congr rfl fun k _ => ?_
  obtain ⟨p, hp⟩ := ha ⟨j, h⟩ k
  rw [hp, EReal.toReal_coe, EReal.coe_mul]

/-- The reference's logit. -/
theorem logit_quotient (a0 : Fin 1024 → Fin 64 → EReal) (a3 : Fin 100000 → Fin 64 → EReal) (ha : ∀ j k, ∃ p : ℝ, a3 j k = (p : EReal))
    (r : Fin 1024) (j : Fin 100000) :
    Ideal.div (∑ k, Ideal.div (a0 r k) (floored (∑ i, a0 r i * a0 r i)) * a3 j k) (Ideal.ofBits .f32 0x3D4CCCCD#32) = (logit a0 a3 r j.val : EReal) := by
  obtain ⟨T, hT, e⟩ := temp_pos
  unfold logit
  rw [dif_pos j.isLt, e, Ideal.div_coe hT.ne']
  have h : ∀ k, Ideal.div (a0 r k) (floored (∑ i, a0 r i * a0 r i)) * a3 j k = ((T * (scale a0 r k * (a3 j k).toReal) : ℝ) : EReal) := fun k => by
    obtain ⟨y, h1, h2⟩ := scaled (a0 r) k
    obtain ⟨p, hp⟩ := ha j k
    unfold scale
    rw [h1, e, h2 T hT, hp, EReal.toReal_coe, EReal.toReal_coe, ← EReal.coe_mul]
    congr 1
    field_simp
  rw [sum_congr rfl fun k _ => h k, ← coe_sum, ← mul_sum, ← EReal.coe_mul]
  congr 1
  rw [mul_one_div, mul_div_cancel_left₀ _ hT.ne']

end Cert.Nll

end

end
-- ==== Proof.Array.lean ====
/-
  The kernel's result array: for proxies that are reals and rows whose cameras are among the eight, the one entry is the loss
  (`Nll.loss`) of the argument arrays.
-/
module

public import proofs.«01_k».proof.Proof.Gen.KernelIdeal.Value
public import proofs.«01_k».proof.Proof.Blocks
public import proofs.«01_k».proof.Proof.Sweep
public import proofs.«01_k».proof.Proof.Loss

@[expose] public section

noncomputable section

namespace Cert.KernelIdeal.Array

open Cert.KernelIdeal Cert.KernelIdeal.Gen Idealize.ShloMosaic Idealize.ShloMosaic.TcCoe Idealize.SL.Sem
open Cert.Nll

variable (m : (ℓ : Loc nD τ sig) → Buf (Elt Ideal) ℓ) (c : Dev nD)

/-- The features. -/
def features : Vec Ideal S1024x64 .f32 := m ((c : Thread nD τ).loc main_arg0)
/-- The features, entry by entry. -/
def a0 : Fin 1024 → Fin 64 → EReal := fun r k => m ((c : Thread nD τ).loc main_arg0) (ix2 r k)
/-- The targets. -/
def a1 : Fin 1024 → BitVec 32 := fun r => m ((c : Thread nD τ).loc main_arg1) (ix1 r)
/-- The rows' cameras. -/
def a2 : Fin 1024 → BitVec 32 := fun r => m ((c : Thread nD τ).loc main_arg2) (ix1 r)
/-- The proxies. -/
def a3 : Fin 100000 → Fin 64 → EReal := fun j k => m ((c : Thread nD τ).loc main_arg3) (ix2 j k)
/-- The proxies' cameras. -/
def a5 : Fin 100000 → BitVec 32 := fun j => m ((c : Thread nD τ).loc main_arg5) (ix1 j)

/-- The blocks of point `t` are the chunk of the arrays that starts at column `2048 t`. -/
theorem blocks (hp : ∀ j k, ∃ p : ℝ, a3 m c j k = (p : EReal)) (hcam : ∀ r, ∃ h : Fin 8, a2 m c r = BitVec.ofNat 32 h.val) (t : Fin cfg0.N) :
    Chunk.Blocks (words (a5 m c)) (a2 m c) (a1 m c) (logit (a0 m c) (a3 m c)) (scale (a0 m c)) (t.val * 2048)
      (iblk m c 2 t) (iblk m c 3 t) (iblk m c 4 t) where
  tg := fun r => Blocks.targets m c t r 0
  logits := fun r j => by
    by_cases h : t.val * 2048 + j.val < 100000
    · rw [← logit_scaled _ _ hp r _ h]
      refine Finset.sum_congr rfl fun k _ => congrArg (fun z : EReal => _ * z) ?_
      exact (Blocks.proxies m c t j k).trans (dif_pos h)
    · refine (Finset.sum_eq_zero fun k _ => ?_).trans ?_
      · refine (congrArg (fun z : EReal => (scale (a0 m c) r k : EReal) * z) ((Blocks.proxies m c t j k).trans (dif_neg h))).trans (mul_zero _)
      · unfold logit
        rw [dif_neg h]
        rfl
  ids := fun j => Blocks.ids m c t j
  known := hcam

/-- The result array is what the last point leaves. -/
theorem last (t : Fin cfg0.N) (ht : t.val = 48) : Value.G5 m c = (outsAt0 m c t.val t.isLt).1 := by
  have e : ∀ (n : ℕ) (hn : n < cfg0.N), n = 48 → Value.G5 m c = (outsAt0 m c n hn).1 := fun n hn h => by
    subst h
    exact (Value.G5_last m c).trans (congrArg (fun o => o.1) (Value.outsAt0_sweep m c 48 hn).symm)
  exact e t.val t.isLt ht

/-- No padding column is of a known camera. -/
theorem padding (a : Fin 100000 → BitVec 32) (h : Fin 8) (i : ℕ) (hi : 100000 ≤ i) : words a i ≠ BitVec.ofNat 32 h.val := by
  unfold words
  rw [dif_neg (by omega)]
  revert h
  decide

/-- What the last point leaves is the loss over the columns and the padding. -/
theorem padded (hp : ∀ j k, ∃ p : ℝ, a3 m c j k = (p : EReal)) (hcam : ∀ r, ∃ h : Fin 8, a2 m c r = BitVec.ofNat 32 h.val)
    (t : Fin cfg0.N) (ht : t.val = 48) (j : S1x1.Idx) : (outsAt0 m c t.val t.isLt).1 j = Ideal.div ((∑ r : Fin 1024,
      rowLoss (words (a5 m c)) (a2 m c r) (a1 m c r) (logit (a0 m c) (a3 m c) r) (100000 + 352) : ℝ) : EReal) (Ideal.ofBits .f32 0x44800000#32) :=
  Sweep.result m c (blocks m c hp hcam) (fun t r => Blocks.cams m c t r 0) (features m c) (fun t => Blocks.features m c t)
    (fun r k => scale_coe (a0 m c) r k) t ht j

/-- The result array is the loss. -/
theorem result (hp : ∀ j k, ∃ p : ℝ, a3 m c j k = (p : EReal)) (hcam : ∀ r, ∃ h : Fin 8, a2 m c r = BitVec.ofNat 32 h.val) (j : S1x1.Idx) :
    Value.G5 m c j = loss (a0 m c) (a1 m c) (a2 m c) (a3 m c) (a5 m c) := by
  obtain ⟨t, ht⟩ : ∃ t : Fin cfg0.N, t.val = 48 := ⟨⟨48, lt_of_lt_of_eq (by decide) N_0.symm⟩, rfl⟩
  rw [last m c t ht, padded m c hp hcam t ht j]
  unfold loss
  refine congrArg (fun z : ℝ => Ideal.div (z : EReal) _) (Finset.sum_congr rfl fun r _ => ?_)
  obtain ⟨h, hr⟩ := hcam r
  rw [hr]
  exact rowLoss_pad _ _ _ _ 100000 352 (padding _ h)

end Cert.KernelIdeal.Array

end

end
-- ==== Proof.Ranks.lean ====
/-
  The reference's words: the row-wise cumulative sum of a mask counts the mask, a camera's columns are counted by the sum of
  its row, and the comparison of a rank with a target is one of naturals, nothing wrapping below 100000.
-/
module

public import Idealize.ShloMosaic.Lib.Routing.Ops
public import proofs.«01_k».proof.Proof.Spec

@[expose] public section

noncomputable section

namespace Cert.Nll

open Idealize.ShloMosaic Idealize.ShloMosaic.ValueIdx Idealize.ShloMosaic.Routing

/-- A cumulative sum along the rows of a matrix reads, at row `i`, as the cumulative sum of that row alone. -/
theorem cumsum_row {R N Nm1 : ℕ} (x : IVec (shape2 R N) 32) (init : IVec shape0 32)
    (h : (shape2 R N).ReduceWindows (![1, N] : Fin 2 → ℕ) ![1, 1] ![0, Nm1] ![0, 0] (shape2 R N))
    (h' : (shape2 1 N).ReduceWindows (![1, N] : Fin 2 → ℕ) ![1, 1] ![0, Nm1] ![0, 0] (shape2 1 N)) (hu : 0 < shape0.numel) (i : Fin R) (j : Fin N) :
    Host.reduceWindow IntOp.addi ![1, N] ![1, 1] ![0, Nm1] ![0, 0] x init h hu (ix2 i j)
      = Host.reduceWindow IntOp.addi ![1, N] ![1, 1] ![0, Nm1] ![0, 0] (fun k : (shape2 1 N).Idx => x (ix2 i (k 1))) init h' hu (ix2 (0 : Fin 1) j) := by
  unfold Host.reduceWindow
  refine congrArg (fun g => List.foldl g (init (Shape.Idx.first hu)) (List.finRange (shape2 1 N).numel)) (funext fun r => funext fun n => congrArg (IntOp.addi r) ?_)
  have w0 : ((shape2 1 N).rowMajor.symm n 0).val = 0 := by rw [symm2]; rfl
  have e : (∀ a : Fin 2, (![0, Nm1] : Fin 2 → ℕ) a ≤ (ix2 i j a).val * (![1, 1] : Fin 2 → ℕ) a + ((shape2 1 N).rowMajor.symm n a).val
      ∧ (ix2 i j a).val * (![1, 1] : Fin 2 → ℕ) a + ((shape2 1 N).rowMajor.symm n a).val - (![0, Nm1] : Fin 2 → ℕ) a < (shape2 R N).size a)
    ↔ (∀ a : Fin 2, (![0, Nm1] : Fin 2 → ℕ) a ≤ (ix2 (0 : Fin 1) j a).val * (![1, 1] : Fin 2 → ℕ) a + ((shape2 1 N).rowMajor.symm n a).val
      ∧ (ix2 (0 : Fin 1) j a).val * (![1, 1] : Fin 2 → ℕ) a + ((shape2 1 N).rowMajor.symm n a).val - (![0, Nm1] : Fin 2 → ℕ) a < (shape2 1 N).size a) := by
    have hi := i.isLt
    have c0 : (0 ≤ i.val * 1 + ((shape2 1 N).rowMajor.symm n 0).val ∧ i.val * 1 + ((shape2 1 N).rowMajor.symm n 0).val - 0 < R) := by
      rw [w0]; omega
    have c0' : (0 ≤ 0 * 1 + ((shape2 1 N).rowMajor.symm n 0).val ∧ 0 * 1 + ((shape2 1 N).rowMajor.symm n 0).val - 0 < 1) := by
      rw [w0]; omega
    constructor
    · intro H a
      match a with
      | ⟨0, _⟩ => exact c0'
      | ⟨1, _⟩ => exact H 1
    · intro H a
      match a with
      | ⟨0, _⟩ => exact c0
      | ⟨1, _⟩ => exact H 1
  by_cases hin : ∀ a : Fin 2, (![0, Nm1] : Fin 2 → ℕ) a ≤ (ix2 i j a).val * (![1, 1] : Fin 2 → ℕ) a + ((shape2 1 N).rowMajor.symm n a).val
      ∧ (ix2 i j a).val * (![1, 1] : Fin 2 → ℕ) a + ((shape2 1 N).rowMajor.symm n a).val - (![0, Nm1] : Fin 2 → ℕ) a < (shape2 R N).size a
  · refine (dif_pos hin).trans (Eq.trans ?_ (dif_pos (e.1 hin)).symm)
    refine congrArg x (funext fun a => Fin.ext ?_)
    match a with
    | ⟨0, _⟩ =>
      show i.val * 1 + ((shape2 1 N).rowMajor.symm n 0).val - 0 = i.val
      rw [w0]; omega
    | ⟨1, _⟩ => rfl
  · refine (dif_neg hin).trans (Eq.trans ?_ (dif_neg (fun H => hin (e.2 H))).symm)
    rfl

/-- The cumulative sum of a mask of ones and zeros along the rows counts the mask. -/
theorem cumsum_count {R N Nm1 : ℕ} (hN : Nm1 + 1 = N) (x : IVec (shape2 R N) 32) (init : IVec shape0 32) (hinit : init ix0 = 0#32)
    (h : (shape2 R N).ReduceWindows (![1, N] : Fin 2 → ℕ) ![1, 1] ![0, Nm1] ![0, 0] (shape2 R N))
    (h' : (shape2 1 N).ReduceWindows (![1, N] : Fin 2 → ℕ) ![1, 1] ![0, Nm1] ![0, 0] (shape2 1 N)) (hu : 0 < shape0.numel) (i : Fin R) (j : Fin N)
    (P : ℕ → Prop) [DecidablePred P] (hx : ∀ k : Fin N, x (ix2 i k) = if P k.val then 1#32 else 0#32) :
    Host.reduceWindow IntOp.addi ![1, N] ![1, 1] ![0, Nm1] ![0, 0] x init h hu (ix2 i j) = BitVec.ofNat 32 (Nat.count P (j.val + 1)) := by
  rw [cumsum_row x init h h' hu i j, cumsum2 hN _ (fun k => if P k then 1 else 0) (fun k => ?_) init hinit h' hu j, sum_map_ite]
  show x (ix2 i k) = _
  rw [hx]
  split <;> rfl

/-- A count below 100000, less one, is a target's word exactly where it is the target. -/
theorem sub_one_eq (n : ℕ) (hn : n < 100000) (b : BitVec 32) : BitVec.ofNat 32 (n + 1) - 1#32 = b ↔ (n : ℤ) = b.toInt := by
  have e : BitVec.ofNat 32 (n + 1) - 1#32 = BitVec.ofNat 32 n := by
    apply BitVec.eq_of_toNat_eq
    simp only [BitVec.toNat_sub, BitVec.toNat_ofNat]
    omega
  have t : (BitVec.ofNat 32 n).toInt = (n : ℤ) := by
    rw [BitVec.toInt_eq_toNat_of_lt (by rw [BitVec.toNat_ofNat]; omega), BitVec.toNat_ofNat, Nat.mod_eq_of_lt (by omega)]
  rw [e, ← t, BitVec.toInt_inj]

/-- A count up to 100000 is above zero as a signed word exactly where it is a positive number. -/
theorem count_pos (n : ℕ) (hn : n ≤ 100000) : IntOp.cmpi .sgt (BitVec.ofNat 32 n) 0#32 = 1#1 ↔ 0 < n := by
  have t : (BitVec.ofNat 32 n).toInt = (n : ℤ) := by
    rw [BitVec.toInt_eq_toNat_of_lt (by rw [BitVec.toNat_ofNat]; omega), BitVec.toNat_ofNat, Nat.mod_eq_of_lt (by omega)]
  have z : (0#32).toInt = 0 := rfl
  show BitVec.ofBool ((0#32).slt (BitVec.ofNat 32 n)) = 1#1 ↔ _
  rw [BitVec.slt_eq_decide, t, z]
  by_cases h : 0 < n <;> simp [h]

end Cert.Nll

end

end
-- ==== Proof.Reference.lean ====
/-
  The reference's value, stage by stage at an entry: its logits, its mask, its logsumexp (the greatest logit it subtracts is
  some real, and which one does not matter), its ranks, its target's logit, its rows' losses, and the mean, which is
  `Nll.loss` of the argument arrays where the proxies are reals.
-/
module

public import proofs.«01_k».proof.Proof.Gen.ReferenceIdeal.Read
public import Idealize.ShloMosaic.Lib.Pointwise
public import proofs.«01_k».proof.Proof.Loss
public import proofs.«01_k».proof.Proof.Ranks

@[expose] public section

noncomputable section

namespace Cert.ReferenceIdeal.Entry

open Cert.ReferenceIdeal Cert.ReferenceIdeal.Gen Cert.ReferenceIdeal.Read Idealize.ShloMosaic Idealize.ShloMosaic.TcCoe Idealize.SL.Sem
open Cert.Nll

variable (x0 : (⟨S1024x64, .f32⟩ : BufTy).Contents (Elt Ideal)) (x1 x2 : (⟨S1024, .i32⟩ : BufTy).Contents (Elt Ideal))
  (x3 : (⟨S100000x64, .f32⟩ : BufTy).Contents (Elt Ideal)) (x5 : (⟨S100000, .i32⟩ : BufTy).Contents (Elt Ideal))

/-- The features, entry by entry. -/
def a0 : Fin 1024 → Fin 64 → EReal := fun r k => x0 (ix2 r k)
/-- The proxies. -/
def a3 : Fin 100000 → Fin 64 → EReal := fun j k => x3 (ix2 j k)
/-- The targets, and the rows' cameras. -/
def a1 : Fin 1024 → BitVec 32 := fun r => x1 (ix1 r)
/-- The proxies' cameras. -/
def a5 : Fin 100000 → BitVec 32 := fun j => x5 (ix1 j)

/-- Both of two bits are set. -/
theorem and_bits : ∀ a b : BitVec 1, IntOp.andi a b = 1#1 ↔ a = 1#1 ∧ b = 1#1 := by decide

/-- The equality word of two words. -/
theorem eq_bit (a b : BitVec 32) : IntOp.cmpi .eq a b = 1#1 ↔ a = b := by
  show BitVec.ofBool (a == b) = 1#1 ↔ a = b
  by_cases h : a = b
  · subst h; simp
  · rw [beq_false_of_ne h]; simp [h]

/-- The word of zero. -/
theorem zero_word : (FloatOps.ofBits .f32 0x00000000#32 : Ideal .f32) = (0 : EReal) := by
  show Ideal.ofBits .f32 0x00000000#32 = 0
  simp [Ideal.ofBits, Ideal.ieee]

/-- A feature over its row's floored norm. -/
theorem feature (r : Fin 1024) (k : Fin 64) :
    val_main_v4 x0 (ix2 r k) = Ideal.div (a0 x0 r k) (floored (∑ i, a0 x0 r i * a0 x0 r i)) := by
  have e1 : idx_main_v3 (ix2 r k) = ix2 r 0 := funext fun a => by
    match a with
    | ⟨0, _⟩ => rfl
    | ⟨1, _⟩ => rfl
  have e2 : idx_main_call0_v2 (ix2 r 0) = ix1 r := funext fun a => by
    match a with
    | ⟨0, _⟩ => rfl
  have e3 : ∀ i : Fin 64, idx_main_call0_v1 (ix1 r) i = ix2 r i := fun i => funext fun a => by
    match a with
    | ⟨0, _⟩ => rfl
    | ⟨1, _⟩ => rfl
  rw [val_main_v4_apply, val_main_v3_apply, e1, val_main_v2_apply, val_main_v0_apply, val_main_call0_v2_apply, e2, val_main_call0_v1_apply]
  have e4 : (∑ i : Fin 64, val_main_call0_v0 (F := Ideal) x0 (idx_main_call0_v1 (ix1 r) i)) = ∑ i, a0 x0 r i * a0 x0 r i :=
    Finset.sum_congr rfl fun i _ => by rw [e3]; rfl
  rw [e4, show val_main_call0_cst (F := Ideal) (Shape.Idx.first h_S_) = (0 : EReal) from zero_word]
  show Ideal.div (a0 x0 r k) (max (Ideal.sqrt (0 + _)) _) = _
  rw [zero_add]
  rfl

/-- A logit. -/
theorem sims (hp : ∀ j k, ∃ p : ℝ, a3 x3 j k = (p : EReal)) (r : Fin 1024) (j : Fin 100000) :
    val_main_v8 x0 x3 (ix2 r j) = (logit (a0 x0) (a3 x3) r j.val : EReal) := by
  rw [val_main_v8_apply, val_main_v6_apply, val_main_v7_apply, ← logit_quotient (a0 x0) (a3 x3) hp r j]
  refine congrArg (fun z : EReal => Ideal.div z (Ideal.ofBits .f32 0x3D4CCCCD#32)) (Finset.sum_congr rfl fun k _ => ?_)
  have e1 : lidx_main_v6 (ix2 r j) k = ix2 r k := funext fun a => by
    match a with
    | ⟨0, _⟩ => rfl
    | ⟨1, _⟩ => rfl
  have e2 : idx_main_v5 (ridx_main_v6 (ix2 r j) k) = ix2 j k := funext fun a => by
    match a with
    | ⟨0, _⟩ => rfl
    | ⟨1, _⟩ => rfl
  rw [e1, feature, val_main_v5_apply, e2]
  rfl

/-- The mask: the column is of the row's camera. -/
theorem mask (r : Fin 1024) (j : Fin 100000) : val_main_v13 (F := Ideal) x2 x5 (ix2 r j) = 1#1 ↔ words (a5 x5) j.val = a1 x2 r := by
  have e1 : idx_main_v9 (idx_main_v11 (ix2 r j)) = ix1 r := funext fun a => by
    match a with
    | ⟨0, _⟩ => rfl
  have e2 : idx_main_v10 (idx_main_v12 (ix2 r j)) = ix1 j := funext fun a => by
    match a with
    | ⟨0, _⟩ => rfl
  rw [val_main_v13_apply, val_main_v11_apply, val_main_v9_apply, val_main_v12_apply, val_main_v10_apply, e1, e2, eq_bit]
  unfold words
  rw [dif_pos j.isLt]
  exact eq_comm

/-- What the reference subtracts before it exponentiates is a real. -/
theorem shift (i : S1024.Idx) : ∃ μ : ℝ, val_main_v21 x0 x2 x3 x5 i = (μ : EReal) := by
  rw [val_main_v21_apply, val_main_v20_apply, val_main_v17_apply, val_main_v19_apply, val_main_v16_apply, val_main_v18_apply, val_main_call2_v1_apply]
  generalize val_main_v15 x0 x2 x3 x5 i = z
  show ∃ μ : ℝ, Scalar.select (IntOp.andi (BitVec.ofBool (decide ((z : EReal) > Ideal.ofBits .f32 0xFF800000#32)))
    (BitVec.ofBool (decide ((z : EReal) < Ideal.ofBits .f32 0x7F800000#32)))) (z : EReal) (FloatOps.ofBits .f32 0x00000000#32 : Ideal .f32) = (μ : EReal)
  rw [bot_word, top_word, zero_word]
  change EReal at z
  induction z with
  | bot => exact ⟨0, by simp [Scalar.select, IntOp.andi]⟩
  | top => exact ⟨0, by simp [Scalar.select, IntOp.andi]⟩
  | coe y => exact ⟨y, by simp [Scalar.select, IntOp.andi, EReal.bot_lt_coe, EReal.coe_lt_top]⟩

/-- The exponentials a row sums: those of its camera's logits. -/
theorem exps (hp : ∀ j k, ∃ p : ℝ, a3 x3 j k = (p : EReal)) (r : Fin 1024) (μ : ℝ) (hμ : val_main_v21 x0 x2 x3 x5 (ix1 r) = (μ : EReal))
    (j : Fin 100000) : val_main_v25 x0 x2 x3 x5 (ix2 r j)
      = ((if words (a5 x5) j.val = a1 x2 r then Real.exp (logit (a0 x0) (a3 x3) r j.val - μ) else 0 : ℝ) : EReal) := by
  have e : idx_main_v22 (idx_main_v23 (ix2 r j)) = ix1 r := funext fun a => by
    match a with
    | ⟨0, _⟩ => rfl
  rw [val_main_v25_apply, val_main_v24_apply, val_main_v14_apply, val_main_v23_apply, val_main_v22_apply, e, hμ, sims x0 x3 hp,
    val_main_call1_v1_apply]
  show Ideal.exp ((Scalar.select (val_main_v13 (F := Ideal) x2 x5 (ix2 r j)) (logit (a0 x0) (a3 x3) r j.val : EReal) (Ideal.ofBits .f32 0xFF800000#32) : EReal) - (μ : EReal)) = _
  rw [bot_word]
  by_cases h : words (a5 x5) j.val = a1 x2 r
  · rw [(mask x2 x5 r j).2 h, if_pos h]
    show Ideal.exp ((logit (a0 x0) (a3 x3) r j.val : EReal) - (μ : EReal)) = _
    rw [← EReal.coe_sub, exp_coe]
  · have hm : val_main_v13 (F := Ideal) x2 x5 (ix2 r j) ≠ 1#1 := fun hm => h ((mask x2 x5 r j).1 hm)
    rw [if_neg h, show (Scalar.select (val_main_v13 (F := Ideal) x2 x5 (ix2 r j)) (logit (a0 x0) (a3 x3) r j.val : EReal) ⊥ : EReal) = ⊥ from if_neg hm,
      EReal.bot_sub]
    rfl

/-- The logsumexp of a row with a column of its camera. -/
theorem lse (hp : ∀ j k, ∃ p : ℝ, a3 x3 j k = (p : EReal)) (r : Fin 1024)
    (h : 0 < expSum (words (a5 x5)) (a1 x2 r) (logit (a0 x0) (a3 x3) r) 0 100000) :
    val_main_v28 x0 x2 x3 x5 (ix1 r) = ((Real.log (expSum (words (a5 x5)) (a1 x2 r) (logit (a0 x0) (a3 x3) r) 0 100000) : ℝ) : EReal) := by
  obtain ⟨μ, hμ⟩ := shift x0 x2 x3 x5 (ix1 r)
  have hs : val_main_v26 x0 x2 x3 x5 (ix1 r) = ((expSum (words (a5 x5)) (a1 x2 r) (logit (a0 x0) (a3 x3) r) μ 100000 : ℝ) : EReal) := by
    have e : ∀ j : Fin 100000, idx_main_v26 (ix1 r) j = ix2 r j := fun j => funext fun a => by
      match a with
      | ⟨0, _⟩ => rfl
      | ⟨1, _⟩ => rfl
    rw [val_main_v26_apply, show val_main_cst_6 (F := Ideal) (Shape.Idx.first h_S_) = (0 : EReal) from zero_word,
      Finset.sum_congr rfl fun j _ => (congrArg _ (e j)).trans (exps x0 x2 x3 x5 hp r μ hμ j), ← coe_sum]
    refine (zero_add _).trans (congrArg _ ?_)
    exact Fin.sum_univ_eq_sum_range (fun j => if words (a5 x5) j = a1 x2 r then Real.exp (logit (a0 x0) (a3 x3) r j - μ) else 0) 100000
  have hpos : 0 < expSum (words (a5 x5)) (a1 x2 r) (logit (a0 x0) (a3 x3) r) μ 100000 := by
    rw [expSum_pos_iff] at h ⊢
    exact h
  rw [val_main_v28_apply, val_main_v27_apply, hs, hμ, ← log_expSum _ _ _ μ _ hpos, add_comm, EReal.coe_add]
  exact congrArg (fun z : EReal => z + (μ : EReal)) (log_coe hpos)

/-- The cumulative count of a row's camera. -/
theorem running (r : Fin 1024) (j : Fin 100000) :
    val_main_v30 (F := Ideal) x2 x5 (ix2 r j) = BitVec.ofNat 32 (Nat.count (fun i => words (a5 x5) i = a1 x2 r) (j.val + 1)) := by
  unfold val_main_v30
  refine cumsum_count (R := 1024) (N := 100000) (Nm1 := 99999) rfl (val_main_v29 (F := Ideal) x2 x5) (val_main_call3_call0_v0 (F := Ideal)) ?_ _ (by decide) _ r j _ fun k => ?_
  · rw [val_main_call3_call0_v0_apply]
    rfl
  · rw [val_main_v29_apply]
    show BitVec.setWidth 32 (val_main_v13 (F := Ideal) x2 x5 (ix2 r k)) = _
    by_cases h : words (a5 x5) k.val = a1 x2 r
    · rw [(mask x2 x5 r k).2 h, if_pos h]
      rfl
    · have hm : val_main_v13 (F := Ideal) x2 x5 (ix2 r k) = 0#1 := by
        have hm : val_main_v13 (F := Ideal) x2 x5 (ix2 r k) ≠ 1#1 := fun hm => h ((mask x2 x5 r k).1 hm)
        revert hm
        generalize val_main_v13 (F := Ideal) x2 x5 (ix2 r k) = w
        revert w
        decide
      rw [hm, if_neg h]
      rfl

/-- The target's mark: the column is of the row's camera and its rank is the target. -/
theorem mark (r : Fin 1024) (j : Fin 100000) : val_main_v36 (F := Ideal) x1 x2 x5 (ix2 r j) = 1#1
    ↔ words (a5 x5) j.val = a1 x2 r ∧ (rank (words (a5 x5)) j.val : ℤ) = (a1 x1 r).toInt := by
  have e : idx_main_v33 (idx_main_v34 (ix2 r j)) = ix1 r := funext fun a => by
    match a with
    | ⟨0, _⟩ => rfl
  rw [val_main_v36_apply, and_bits, mask]
  refine and_congr_right fun h => ?_
  rw [val_main_v35_apply, val_main_v32_apply, val_main_v34_apply, val_main_v33_apply, e, val_main_v31_apply, running, eq_bit]
  have hc : Nat.count (fun i => words (a5 x5) i = a1 x2 r) (j.val + 1) = rank (words (a5 x5)) j.val + 1 := by
    rw [Nat.count_succ, if_pos h]
    unfold rank
    rw [h]
  rw [hc]
  have hj := j.isLt
  exact sub_one_eq _ (Nat.lt_of_le_of_lt (Nat.count_le _) hj) _

/-- The target's logit. -/
theorem target (hp : ∀ j k, ∃ p : ℝ, a3 x3 j k = (p : EReal)) (r : Fin 1024) : val_main_v38 x0 x1 x2 x3 x5 (ix1 r)
    = ((hit (words (a5 x5)) (a1 x2 r) (a1 x1 r) (logit (a0 x0) (a3 x3) r) 100000 : ℝ) : EReal) := by
  have e : ∀ j : Fin 100000, idx_main_v38 (ix1 r) j = ix2 r j := fun j => funext fun a => by
    match a with
    | ⟨0, _⟩ => rfl
    | ⟨1, _⟩ => rfl
  have ht : ∀ j : Fin 100000, val_main_v37 x0 x1 x2 x3 x5 (idx_main_v38 (ix1 r) j)
      = ((if words (a5 x5) j.val = a1 x2 r ∧ (rank (words (a5 x5)) j.val : ℤ) = (a1 x1 r).toInt then logit (a0 x0) (a3 x3) r j.val else 0 : ℝ) : EReal) := fun j => by
    rw [e, val_main_v37_apply, sims x0 x3 hp, val_main_call4_v1_apply]
    by_cases h : words (a5 x5) j.val = a1 x2 r ∧ (rank (words (a5 x5)) j.val : ℤ) = (a1 x1 r).toInt
    · rw [(mark x1 x2 x5 r j).2 h, if_pos h]
      rfl
    · rw [if_neg h]
      exact (if_neg fun hm => h ((mark x1 x2 x5 r j).1 hm)).trans zero_word
  rw [val_main_v38_apply, show val_main_cst_8 (F := Ideal) (Shape.Idx.first h_S_) = (0 : EReal) from zero_word,
    Finset.sum_congr rfl fun j _ => ht j, ← coe_sum]
  refine (zero_add _).trans (congrArg _ ?_)
  exact Fin.sum_univ_eq_sum_range (fun j => if words (a5 x5) j = a1 x2 r ∧ (rank (words (a5 x5)) j : ℤ) = (a1 x1 r).toInt then logit (a0 x0) (a3 x3) r j else 0) 100000

/-- The row's camera has a column. -/
theorem valid (l : ℕ → ℝ) (r : Fin 1024) : val_main_v43 (F := Ideal) x2 x5 (ix1 r) = 1#1 ↔ 0 < expSum (words (a5 x5)) (a1 x2 r) l 0 100000 := by
  have hc : val_main_v41 (F := Ideal) x2 x5 (ix1 r) = BitVec.ofNat 32 (Nat.count (fun i => words (a5 x5) i = a1 x2 r) 100000) :=
    Routing.reduce_count (n := 1024) (m := 100000) (by decide) (val_main_v13 (F := Ideal) x2 x5) natLt_1_32 _ _ r _ fun q => mask x2 x5 r q
  rw [val_main_v43_apply, hc, val_main_v42_apply, expSum_pos_iff, val_main_c_10_apply, count_pos _ (Nat.count_le _)]
  constructor
  · intro h
    by_contra hn
    push Not at hn
    rw [Nat.count_eq_card_filter_range, Finset.filter_false_of_mem (fun j hj => hn j (Finset.mem_range.1 hj))] at h
    exact absurd h (by simp)
  · rintro ⟨j, hj, h⟩
    rw [Nat.count_eq_card_filter_range, Finset.card_pos]
    exact ⟨j, Finset.mem_filter.2 ⟨Finset.mem_range.2 hj, h⟩⟩

/-- What a row loses. -/
theorem row (hp : ∀ j k, ∃ p : ℝ, a3 x3 j k = (p : EReal)) (r : Fin 1024) : val_main_v44 x0 x1 x2 x3 x5 (ix1 r)
    = ((rowLoss (words (a5 x5)) (a1 x2 r) (a1 x1 r) (logit (a0 x0) (a3 x3) r) 100000 : ℝ) : EReal) := by
  rw [val_main_v44_apply, val_main_call5_v1_apply]
  unfold rowLoss
  by_cases h : 0 < expSum (words (a5 x5)) (a1 x2 r) (logit (a0 x0) (a3 x3) r) 0 100000
  · rw [(valid x2 x5 _ r).2 h, if_pos h, val_main_v39_apply, lse x0 x2 x3 x5 hp r h, target x0 x1 x2 x3 x5 hp, EReal.coe_sub]
    rfl
  · rw [if_neg h]
    exact (if_neg fun hm => h ((valid x2 x5 _ r).1 hm)).trans zero_word

/-- The reference's result is the loss. -/
theorem result (hp : ∀ j k, ∃ p : ℝ, a3 x3 j k = (p : EReal)) (j : S1x1.Idx) :
    val_main_v47 x0 x1 x2 x3 x5 j = loss (a0 x0) (a1 x1) (a1 x2) (a3 x3) (a5 x5) := by
  have e : ∀ i : S_.Idx, val_main_v46 x0 x1 x2 x3 x5 i = loss (a0 x0) (a1 x1) (a1 x2) (a3 x3) (a5 x5) := fun i => by
    rw [val_main_v46_apply, val_main_v45_apply, show val_main_cst_12 (F := Ideal) (Shape.Idx.first h_S_) = (0 : EReal) from zero_word,
      sum_idx1, Finset.sum_congr rfl fun r _ => row x0 x1 x2 x3 x5 hp r, ← coe_sum]
    unfold loss
    exact congrArg (fun z : EReal => Ideal.div z (Ideal.ofBits .f32 0x44800000#32)) (zero_add _)
  unfold val_main_v47
  exact e _

end Cert.ReferenceIdeal.Entry

end

end
-- ==== Proof.Equation.lean ====
/-
  The two runs side by side. The precondition, read at an entry, says that a proxy is a real and a row's camera is one of the
  eight; under it the kernel's result array and the reference's are the loss of the same arrays.
-/
module

public import proofs.«01_k».proof.Defs
public import proofs.«01_k».proof.Proof.Gen.KernelIdeal
public import proofs.«01_k».proof.Proof.Gen.ReferenceIdeal
public import proofs.«01_k».proof.Proof.Array
public import proofs.«01_k».proof.Proof.Reference

@[expose] public section

noncomputable section

namespace Cert.Equation

open Idealize.ShloMosaic Idealize.ShloMosaic.TcCoe Idealize.SL.Sem

/-- The side conditions of the precondition. -/
theorem preFacts : Cert.Pre_finite_proxies_and_known_cams.Facts := ⟨by decide, by decide⟩

/-- Strictly between the infinities: a real. -/
theorem real_of_bits (z : EReal) (h : IntOp.andi (BitVec.ofBool (decide (z > Ideal.ofBits .f32 0xFF800000#32)))
    (BitVec.ofBool (decide (z < Ideal.ofBits .f32 0x7F800000#32))) = 1#1) : ∃ p : ℝ, z = (p : EReal) := by
  rw [Cert.Nll.bot_word, Cert.Nll.top_word] at h
  induction z with
  | bot => simp [IntOp.andi] at h
  | top => simp [IntOp.andi] at h
  | coe y => exact ⟨y, rfl⟩

/-- At least zero and below eight, as signed words: one of the eight. -/
theorem known_of_bits (w : BitVec 32) (h : IntOp.andi (IntOp.cmpi .sge w 0#32) (IntOp.cmpi .slt w 8#32) = 1#1) :
    ∃ k : Fin 8, w = BitVec.ofNat 32 k.val := by
  obtain ⟨h1, h2⟩ := (Cert.ReferenceIdeal.Entry.and_bits _ _).1 h
  have h1' : (BitVec.ofBool ((0#32).sle w)) = 1#1 := h1
  have h2' : (BitVec.ofBool (w.slt 8#32)) = 1#1 := h2
  rw [BitVec.sle_eq_decide] at h1'
  rw [BitVec.slt_eq_decide] at h2'
  have g1 : (0#32).toInt ≤ w.toInt := by
    by_contra hn
    rw [decide_eq_false hn] at h1'
    exact absurd h1' (by decide)
  have g2 : w.toInt < (8#32).toInt := by
    by_contra hn
    rw [decide_eq_false hn] at h2'
    exact absurd h2' (by decide)
  have z0 : (0#32).toInt = 0 := rfl
  have z8 : (8#32).toInt = 8 := rfl
  rw [z0] at g1
  rw [z8] at g2
  have e : w.toInt = (w.toNat : ℤ) := by
    have hw := w.isLt
    rw [BitVec.toInt_eq_toNat_cond] at g1 ⊢
    split at g1 <;> split <;> omega
  refine ⟨⟨w.toNat, by omega⟩, BitVec.eq_of_toNat_eq ?_⟩
  rw [BitVec.toNat_ofNat]
  exact (Nat.mod_eq_of_lt w.isLt).symm

section
variable [Cert.Pre_finite_proxies_and_known_cams.Facts] (x0 : FVec Ideal (⟨2, ![1024, 64]⟩ : Shape) .f32) (x1 x2 : IVec (⟨1, ![1024]⟩ : Shape) 32)
  (x3 : FVec Ideal (⟨2, ![100000, 64]⟩ : Shape) .f32) (x4 x5 : IVec (⟨1, ![100000]⟩ : Shape) 32)

/-- Under the precondition the proxies are reals. -/
theorem proxies_real (h : (Cert.Pre_finite_proxies_and_known_cams.fn (F := Ideal) x0 x1 x2 x3 x4 x5).1 = fun _ => 1#1) (j : Fin 100000) (k : Fin 64) :
    ∃ p : ℝ, (x3 (ix2 j k) : EReal) = (p : EReal) :=
  real_of_bits (x3 (ix2 j k)) (congrFun h (ix2 j k))

/-- Under the precondition the rows' cameras are among the eight. -/
theorem cams_known (h : (Cert.Pre_finite_proxies_and_known_cams.fn (F := Ideal) x0 x1 x2 x3 x4 x5).2 = fun _ => 1#1) (r : Fin 1024) :
    ∃ k : Fin 8, x2 (ix1 r) = BitVec.ofNat 32 k.val :=
  known_of_bits (x2 (ix1 r)) (congrFun h (ix1 r))
end

/-- The kernel and the reference, from memories that agree on the arguments and satisfy the precondition, end with one result. -/
theorem algebraic : Cert.algebraic_KernelIdeal_ReferenceIdeal_pre_finite_proxies_and_known_cams (hKernelIdeal := Cert.KernelIdeal.Gen.facts)
    (hReferenceIdeal := Cert.ReferenceIdeal.Gen.facts) (hPre_finite_proxies_and_known_cams := preFacts) := by
  intro m g m' g' hpre hagree
  refine ⟨fun c => Cert.KernelIdeal.Value.G5 m c, Cert.KernelIdeal.Value.run m g, ?_⟩
  refine (θ_run _ _ _).mono (fun r h c => ⟨(h c).1.trans ?_, (h c).2⟩) (Cert.ReferenceIdeal.Value.run m' g')
  obtain ⟨p1, p2⟩ := hpre c
  have hp := @proxies_real preFacts _ _ _ _ _ _ p1
  have hcam := @cams_known preFacts _ _ _ _ _ _ p2
  obtain ⟨e0, e1, e2, e3, -, e5⟩ := hagree c
  rw [Cert.ReferenceIdeal.Read.val_main_v47_eq, e0, e1, e2, e3, e5]
  funext j
  exact (Cert.ReferenceIdeal.Entry.result _ _ _ _ _ hp j).trans (Cert.KernelIdeal.Array.result m c hp hcam j).symm

end Cert.Equation

end

end
-- ==== Proof.lean ====
/-
  The assembly: the kernel and its idealization run and leave their arguments alone (their generated frames), the plain
  reference does too, the idealization rewrites nothing, and the kernel's result is the reference's (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem

/-- The reference is a straight line of host operations on a program without semaphores: its generated run gives the arguments, and there
    is no counter to be other than zero. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- Everything that is claimed: the frames (with and without the precondition), the trivial preservation, and the equation of the results. -/
theorem claim : Cert.Claim :=
  ⟨Cert.Kernel.Gen.facts, Cert.KernelIdeal.Gen.facts, Cert.ReferenceIdeal.Gen.facts, Cert.Equation.preFacts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    Cert.Equation.algebraic⟩

end Cert.Proof

end
